-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_exponents_in_range [hPre_exponents_in_range : Cert.Pre_exponents_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_exponents_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exponents_in_range [hPre_exponents_in_range : Cert.Pre_exponents_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exponents_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_exponents_in_range [hKernelIdeal : Cert.KernelIdeal.Facts] [hPre_exponents_in_range : Cert.Pre_exponents_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_exponents_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_exponents_in_range [hReferenceIdeal : Cert.ReferenceIdeal.Facts] [hPre_exponents_in_range : Cert.Pre_exponents_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exponents_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_exponents_in_range [hKernelIdeal : Cert.KernelIdeal.Facts] [hReferenceIdeal : Cert.ReferenceIdeal.Facts] [hPre_exponents_in_range : Cert.Pre_exponents_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_exponents_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_exponents_in_range : Cert.Pre_exponents_in_range.Facts),
    quiescent_Kernel (hKernel := hKernel)
    ∧ quiescent_KernelIdeal (hKernelIdeal := hKernelIdeal)
    ∧ quiescent_KernelIdeal_pre_exponents_in_range (hKernelIdeal := hKernelIdeal) (hPre_exponents_in_range := hPre_exponents_in_range)
    ∧ quiescent_ReferenceIdeal (hReferenceIdeal := hReferenceIdeal)
    ∧ quiescent_ReferenceIdeal_pre_exponents_in_range (hReferenceIdeal := hReferenceIdeal) (hPre_exponents_in_range := hPre_exponents_in_range)
    ∧ preserves_Kernel_KernelIdeal
    ∧ algebraic_KernelIdeal_ReferenceIdeal_pre_exponents_in_range (hKernelIdeal := hKernelIdeal) (hReferenceIdeal := hReferenceIdeal) (hPre_exponents_in_range := hPre_exponents_in_range)
-- ==== Pre_exponents_in_range.lean ====
abbrev S96x1x7808 : Shape := ⟨3, ![96, 1, 7808]⟩
abbrev S14720x1952x3 : Shape := ⟨3, ![14720, 1952, 3]⟩
abbrev S14720 : Shape := ⟨1, ![14720]⟩
abbrev S14720x61 : Shape := ⟨2, ![14720, 61]⟩
abbrev S_ : Shape := ⟨0, ![]⟩

class Facts : Prop where
  bcast_S_S14720x61 : S_.BroadcastsInDim S14720x61 (![] : Fin 0 → Fin S14720x61.rank)

variable [Facts]

def fn {F : FTy → Type} [FloatOps F] (main_arg0 : FVec F S96x1x7808 .bf16) (main_arg1 : IVec S14720x1952x3 8) (main_arg2 : FVec F S14720 .f32) (main_arg3 : IVec S14720x61 32) : IVec S14720x61 1 :=
  let main_c : IVec S_ 32 := constantI S_ 32 23#32
  let main_v0 : IVec S14720x61 32 := broadcastInDim S14720x61 ![] bcast_S_S14720x61 main_c
  let main_v1 : IVec S14720x61 32 := Host.shrsi main_arg3 main_v0
  let main_c_0 : IVec S_ 32 := constantI S_ 32 255#32
  let main_v2 : IVec S14720x61 32 := broadcastInDim S14720x61 ![] bcast_S_S14720x61 main_c_0
  let main_v3 : IVec S14720x61 32 := andi main_v1 main_v2
  let main_c_1 : IVec S_ 32 := constantI S_ 32 5#32
  let main_v4 : IVec S14720x61 32 := broadcastInDim S14720x61 ![] bcast_S_S14720x61 main_c_1
  let main_v5 : IVec S14720x61 1 := cmpi .sge main_v3 main_v4
  let main_c_2 : IVec S_ 32 := constantI S_ 32 250#32
  let main_v6 : IVec S14720x61 32 := broadcastInDim S14720x61 ![] bcast_S_S14720x61 main_c_2
  let main_v7 : IVec S14720x61 1 := cmpi .sle main_v3 main_v6
  let main_v8 : IVec S14720x61 1 := andi main_v5 main_v7
  main_v8
-- ==== Kernel.lean ====
abbrev S96x1x7808 : Shape := ⟨3, ![96, 1, 7808]⟩
abbrev S14720x1952x3 : Shape := ⟨3, ![14720, 1952, 3]⟩
abbrev S14720 : Shape := ⟨1, ![14720]⟩
abbrev S14720x61 : Shape := ⟨2, ![14720, 61]⟩
abbrev S96x7808 : Shape := ⟨2, ![96, 7808]⟩
abbrev S3x1952x14720 : Shape := ⟨3, ![3, 1952, 14720]⟩
abbrev S61x14720 : Shape := ⟨2, ![61, 14720]⟩
abbrev S1x14720 : Shape := ⟨2, ![1, 14720]⟩
abbrev S96x14720 : Shape := ⟨2, ![96, 14720]⟩
abbrev S3x1952x512 : Shape := ⟨3, ![3, 1952, 512]⟩
abbrev S61x512 : Shape := ⟨2, ![61, 512]⟩
abbrev S1x512 : Shape := ⟨2, ![1, 512]⟩
abbrev S96x512 : Shape := ⟨2, ![96, 512]⟩
abbrev S96x128 : Shape := ⟨2, ![96, 128]⟩
abbrev S96x128x1 : Shape := ⟨3, ![96, 128, 1]⟩
abbrev S1x32x512 : Shape := ⟨3, ![1, 32, 512]⟩
abbrev S32x512 : Shape := ⟨2, ![32, 512]⟩
abbrev S8x512 : Shape := ⟨2, ![8, 512]⟩
abbrev S16x512 : Shape := ⟨2, ![16, 512]⟩
abbrev S256x512 : Shape := ⟨2, ![256, 512]⟩
abbrev S96x256 : Shape := ⟨2, ![96, 256]⟩
abbrev S128x512 : Shape := ⟨2, ![128, 512]⟩

abbrev nBuf : Space → Nat
  | .hbm => 9
  | .vmem => 11
  | .smem => 0
  | _ => 0

abbrev bufTy : (tb : Table) → Fin (tcTables nBuf tb) → BufTy
  | .hbm, ⟨0, _⟩ => ⟨S96x1x7808, .bf16⟩
  | .hbm, ⟨1, _⟩ => ⟨S14720x1952x3, .i8⟩
  | .hbm, ⟨2, _⟩ => ⟨S14720, .f32⟩
  | .hbm, ⟨3, _⟩ => ⟨S14720x61, .i32⟩
  | .hbm, ⟨4, _⟩ => ⟨S96x7808, .bf16⟩
  | .hbm, ⟨5, _⟩ => ⟨S3x1952x14720, .i8⟩
  | .hbm, ⟨6, _⟩ => ⟨S61x14720, .i32⟩
  | .hbm, ⟨7, _⟩ => ⟨S1x14720, .f32⟩
  | .hbm, ⟨8, _⟩ => ⟨S96x14720, .bf16⟩
  | .local _ .vmem, ⟨0, _⟩ => ⟨S96x7808, .bf16⟩
  | .local _ .vmem, ⟨1, _⟩ => ⟨S3x1952x512, .i8⟩
  | .local _ .vmem, ⟨2, _⟩ => ⟨S3x1952x512, .i8⟩
  | .local _ .vmem, ⟨3, _⟩ => ⟨S61x512, .i32⟩
  | .local _ .vmem, ⟨4, _⟩ => ⟨S61x512, .i32⟩
  | .local _ .vmem, ⟨5, _⟩ => ⟨S1x512, .f32⟩
  | .local _ .vmem, ⟨6, _⟩ => ⟨S1x512, .f32⟩
  | .local _ .vmem, ⟨7, _⟩ => ⟨S96x512, .bf16⟩
  | .local _ .vmem, ⟨8, _⟩ => ⟨S96x512, .bf16⟩
  | .local _ .vmem, ⟨9, _⟩ => ⟨S96x7808, .bf16⟩
  | .local _ .vmem, ⟨10, _⟩ => ⟨S61x512, .i32⟩
  | _, _ => ⟨S96x1x7808, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x7808 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x1952x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S61x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S96x1x7808 : Shape := ⟨3, ![96, 1, 7808]⟩
abbrev S14720x1952x3 : Shape := ⟨3, ![14720, 1952, 3]⟩
abbrev S14720 : Shape := ⟨1, ![14720]⟩
abbrev S14720x61 : Shape := ⟨2, ![14720, 61]⟩
abbrev S14720x1952x1 : Shape := ⟨3, ![14720, 1952, 1]⟩
abbrev S14720x1952 : Shape := ⟨2, ![14720, 1952]⟩
abbrev S_ : Shape := ⟨0, ![]⟩
abbrev S14720x61x32 : Shape := ⟨3, ![14720, 61, 32]⟩
abbrev S96x1952x4 : Shape := ⟨3, ![96, 1952, 4]⟩
abbrev S96x1952x1 : Shape := ⟨3, ![96, 1952, 1]⟩
abbrev S96x1952 : Shape := ⟨2, ![96, 1952]⟩
abbrev S96x14720 : Shape := ⟨2, ![96, 14720]⟩
abbrev S1x14720 : Shape := ⟨2, ![1, 14720]⟩

abbrev nBuf : Space → Nat
  | .hbm => 333
  | .vmem => 0
  | .smem => 0
  | _ => 0

abbrev hbmTy0_0 (i : Nat) : BufTy := match i % 128 with
  | 0 => ⟨S96x1x7808, .bf16⟩
  | 1 => ⟨S14720x1952x3, .i8⟩
  | 2 => ⟨S14720, .f32⟩
  | 3 => ⟨S14720x61, .i32⟩
  | 4 => ⟨S14720x1952x3, .i32⟩
  | 5 => ⟨S14720x1952x1, .i32⟩
  | 6 => ⟨S14720x1952, .i32⟩
  | 7 => ⟨S14720x1952x1, .i32⟩
  | 8 => ⟨S14720x1952, .i32⟩
  | 9 => ⟨S_, .i32⟩
  | 10 => ⟨S14720x1952, .i32⟩
  | 11 => ⟨S14720x1952, .i32⟩
  | 12 => ⟨S14720x1952, .i32⟩
  | 13 => ⟨S14720x1952x1, .i32⟩
  | 14 => ⟨S14720x1952, .i32⟩
  | 15 => ⟨S_, .i32⟩
  | 16 => ⟨S14720x1952, .i32⟩
  | 17 => ⟨S14720x1952, .i32⟩
  | 18 => ⟨S14720x1952, .i32⟩
  | 19 => ⟨S_, .i32⟩
  | 20 => ⟨S14720x61, .i32⟩
  | 21 => ⟨S14720x61, .i32⟩
  | 22 => ⟨S_, .i32⟩
  | 23 => ⟨S14720x61, .i32⟩
  | 24 => ⟨S14720x61, .i32⟩
  | 25 => ⟨S_, .i32⟩
  | 26 => ⟨S14720x61, .i32⟩
  | 27 => ⟨S14720x61, .i32⟩
  | 28 => ⟨S_, .i32⟩
  | 29 => ⟨S14720x61, .i32⟩
  | 30 => ⟨S14720x61, .i32⟩
  | 31 => ⟨S14720x61x32, .i32⟩
  | 32 => ⟨S14720x1952, .i32⟩
  | 33 => ⟨S96x1952x4, .bf16⟩
  | 34 => ⟨S_, .i32⟩
  | 35 => ⟨S14720x1952, .i32⟩
  | 36 => ⟨S14720x1952, .i32⟩
  | 37 => ⟨S_, .i32⟩
  | 38 => ⟨S14720x1952, .i32⟩
  | 39 => ⟨S14720x1952, .i32⟩
  | 40 => ⟨S_, .i32⟩
  | 41 => ⟨S14720x1952, .i32⟩
  | 42 => ⟨S14720x1952, .i32⟩
  | 43 => ⟨S_, .i32⟩
  | 44 => ⟨S14720x1952, .i32⟩
  | 45 => ⟨S14720x1952, .i32⟩
  | 46 => ⟨S_, .i32⟩
  | 47 => ⟨S14720x1952, .i32⟩
  | 48 => ⟨S14720x1952, .i32⟩
  | 49 => ⟨S_, .i32⟩
  | 50 => ⟨S14720x1952, .i32⟩
  | 51 => ⟨S14720x1952, .i32⟩
  | 52 => ⟨S_, .i32⟩
  | 53 => ⟨S14720x1952, .i32⟩
  | 54 => ⟨S14720x1952, .i32⟩
  | 55 => ⟨S_, .i32⟩
  | 56 => ⟨S14720x1952, .i32⟩
  | 57 => ⟨S14720x1952, .i32⟩
  | 58 => ⟨S_, .i32⟩
  | 59 => ⟨S14720x1952, .i32⟩
  | 60 => ⟨S14720x1952, .i32⟩
  | 61 => ⟨S_, .i32⟩
  | 62 => ⟨S14720x1952, .i32⟩
  | 63 => ⟨S14720x1952, .i32⟩
  | 64 => ⟨S14720x1952, .i32⟩
  | 65 => ⟨S_, .i32⟩
  | 66 => ⟨S14720x1952, .i32⟩
  | 67 => ⟨S14720x1952, .i1⟩
  | 68 => ⟨S_, .i32⟩
  | 69 => ⟨S14720x1952, .i32⟩
  | 70 => ⟨S14720x1952, .i1⟩
  | 71 => ⟨S_, .i32⟩
  | 72 => ⟨S14720x1952, .i32⟩
  | 73 => ⟨S14720x1952, .i1⟩
  | 74 => ⟨S_, .i32⟩
  | 75 => ⟨S_, .i32⟩
  | 76 => ⟨S14720x1952, .i32⟩
  | 77 => ⟨S14720x1952, .i32⟩
  | 78 => ⟨S14720x1952, .i32⟩
  | 79 => ⟨S_, .i32⟩
  | 80 => ⟨S14720x1952, .i32⟩
  | 81 => ⟨S14720x1952, .i32⟩
  | 82 => ⟨S_, .i32⟩
  | 83 => ⟨S14720x1952, .i32⟩
  | 84 => ⟨S14720x1952, .i32⟩
  | 85 => ⟨S_, .i32⟩
  | 86 => ⟨S14720x1952, .i32⟩
  | 87 => ⟨S14720x1952, .i1⟩
  | 88 => ⟨S14720x1952, .i32⟩
  | 89 => ⟨S14720x1952, .i32⟩
  | 90 => ⟨S_, .i32⟩
  | 91 => ⟨S14720x1952, .i32⟩
  | 92 => ⟨S14720x1952, .i1⟩
  | 93 => ⟨S14720x1952, .i32⟩
  | 94 => ⟨S_, .i32⟩
  | 95 => ⟨S_, .i32⟩
  | 96 => ⟨S14720x1952, .i32⟩
  | 97 => ⟨S14720x1952, .i32⟩
  | 98 => ⟨S_, .i32⟩
  | 99 => ⟨S14720x1952, .i32⟩
  | 100 => ⟨S14720x1952, .i32⟩
  | 101 => ⟨S14720x1952, .i32⟩
  | 102 => ⟨S14720x1952, .i16⟩
  | 103 => ⟨S14720x1952, .bf16⟩
  | 104 => ⟨S96x1952x1, .bf16⟩
  | 105 => ⟨S96x1952, .bf16⟩
  | 106 => ⟨S96x14720, .f32⟩
  | 107 => ⟨S_, .i32⟩
  | 108 => ⟨S14720x1952, .i32⟩
  | 109 => ⟨S14720x1952, .i32⟩
  | 110 => ⟨S_, .i32⟩
  | 111 => ⟨S14720x1952, .i32⟩
  | 112 => ⟨S14720x1952, .i32⟩
  | 113 => ⟨S_, .i32⟩
  | 114 => ⟨S14720x1952, .i32⟩
  | 115 => ⟨S14720x1952, .i32⟩
  | 116 => ⟨S_, .i32⟩
  | 117 => ⟨S14720x1952, .i32⟩
  | 118 => ⟨S14720x1952, .i32⟩
  | 119 => ⟨S_, .i32⟩
  | 120 => ⟨S14720x1952, .i32⟩
  | 121 => ⟨S14720x1952, .i32⟩
  | 122 => ⟨S_, .i32⟩
  | 123 => ⟨S14720x1952, .i32⟩
  | 124 => ⟨S14720x1952, .i32⟩
  | 125 => ⟨S_, .i32⟩
  | 126 => ⟨S14720x1952, .i32⟩
  | 127 => ⟨S14720x1952, .i32⟩
  | _ => ⟨S96x1x7808, .bf16⟩

abbrev hbmTy0_1 (i : Nat) : BufTy := match i % 128 with
  | 0 => ⟨S_, .i32⟩
  | 1 => ⟨S14720x1952, .i32⟩
  | 2 => ⟨S14720x1952, .i32⟩
  | 3 => ⟨S_, .i32⟩
  | 4 => ⟨S14720x1952, .i32⟩
  | 5 => ⟨S14720x1952, .i32⟩
  | 6 => ⟨S_, .i32⟩
  | 7 => ⟨S14720x1952, .i32⟩
  | 8 => ⟨S14720x1952, .i32⟩
  | 9 => ⟨S14720x1952, .i32⟩
  | 10 => ⟨S_, .i32⟩
  | 11 => ⟨S14720x1952, .i32⟩
  | 12 => ⟨S14720x1952, .i1⟩
  | 13 => ⟨S_, .i32⟩
  | 14 => ⟨S14720x1952, .i32⟩
  | 15 => ⟨S14720x1952, .i1⟩
  | 16 => ⟨S_, .i32⟩
  | 17 => ⟨S14720x1952, .i32⟩
  | 18 => ⟨S14720x1952, .i1⟩
  | 19 => ⟨S_, .i32⟩
  | 20 => ⟨S_, .i32⟩
  | 21 => ⟨S14720x1952, .i32⟩
  | 22 => ⟨S14720x1952, .i32⟩
  | 23 => ⟨S14720x1952, .i32⟩
  | 24 => ⟨S_, .i32⟩
  | 25 => ⟨S14720x1952, .i32⟩
  | 26 => ⟨S14720x1952, .i32⟩
  | 27 => ⟨S_, .i32⟩
  | 28 => ⟨S14720x1952, .i32⟩
  | 29 => ⟨S14720x1952, .i32⟩
  | 30 => ⟨S_, .i32⟩
  | 31 => ⟨S14720x1952, .i32⟩
  | 32 => ⟨S14720x1952, .i1⟩
  | 33 => ⟨S14720x1952, .i32⟩
  | 34 => ⟨S14720x1952, .i32⟩
  | 35 => ⟨S_, .i32⟩
  | 36 => ⟨S14720x1952, .i32⟩
  | 37 => ⟨S14720x1952, .i1⟩
  | 38 => ⟨S14720x1952, .i32⟩
  | 39 => ⟨S_, .i32⟩
  | 40 => ⟨S_, .i32⟩
  | 41 => ⟨S14720x1952, .i32⟩
  | 42 => ⟨S14720x1952, .i32⟩
  | 43 => ⟨S_, .i32⟩
  | 44 => ⟨S14720x1952, .i32⟩
  | 45 => ⟨S14720x1952, .i32⟩
  | 46 => ⟨S14720x1952, .i32⟩
  | 47 => ⟨S14720x1952, .i16⟩
  | 48 => ⟨S14720x1952, .bf16⟩
  | 49 => ⟨S96x1952x1, .bf16⟩
  | 50 => ⟨S96x1952, .bf16⟩
  | 51 => ⟨S96x14720, .f32⟩
  | 52 => ⟨S96x14720, .f32⟩
  | 53 => ⟨S_, .i32⟩
  | 54 => ⟨S14720x1952, .i32⟩
  | 55 => ⟨S14720x1952, .i32⟩
  | 56 => ⟨S_, .i32⟩
  | 57 => ⟨S14720x1952, .i32⟩
  | 58 => ⟨S14720x1952, .i32⟩
  | 59 => ⟨S_, .i32⟩
  | 60 => ⟨S14720x1952, .i32⟩
  | 61 => ⟨S14720x1952, .i32⟩
  | 62 => ⟨S_, .i32⟩
  | 63 => ⟨S14720x1952, .i32⟩
  | 64 => ⟨S14720x1952, .i32⟩
  | 65 => ⟨S_, .i32⟩
  | 66 => ⟨S14720x1952, .i32⟩
  | 67 => ⟨S14720x1952, .i32⟩
  | 68 => ⟨S_, .i32⟩
  | 69 => ⟨S14720x1952, .i32⟩
  | 70 => ⟨S14720x1952, .i32⟩
  | 71 => ⟨S_, .i32⟩
  | 72 => ⟨S14720x1952, .i32⟩
  | 73 => ⟨S14720x1952, .i32⟩
  | 74 => ⟨S_, .i32⟩
  | 75 => ⟨S14720x1952, .i32⟩
  | 76 => ⟨S14720x1952, .i32⟩
  | 77 => ⟨S_, .i32⟩
  | 78 => ⟨S14720x1952, .i32⟩
  | 79 => ⟨S14720x1952, .i32⟩
  | 80 => ⟨S_, .i32⟩
  | 81 => ⟨S14720x1952, .i32⟩
  | 82 => ⟨S14720x1952, .i32⟩
  | 83 => ⟨S14720x1952, .i32⟩
  | 84 => ⟨S_, .i32⟩
  | 85 => ⟨S14720x1952, .i32⟩
  | 86 => ⟨S14720x1952, .i1⟩
  | 87 => ⟨S_, .i32⟩
  | 88 => ⟨S14720x1952, .i32⟩
  | 89 => ⟨S14720x1952, .i1⟩
  | 90 => ⟨S_, .i32⟩
  | 91 => ⟨S14720x1952, .i32⟩
  | 92 => ⟨S14720x1952, .i1⟩
  | 93 => ⟨S_, .i32⟩
  | 94 => ⟨S_, .i32⟩
  | 95 => ⟨S14720x1952, .i32⟩
  | 96 => ⟨S14720x1952, .i32⟩
  | 97 => ⟨S14720x1952, .i32⟩
  | 98 => ⟨S_, .i32⟩
  | 99 => ⟨S14720x1952, .i32⟩
  | 100 => ⟨S14720x1952, .i32⟩
  | 101 => ⟨S_, .i32⟩
  | 102 => ⟨S14720x1952, .i32⟩
  | 103 => ⟨S14720x1952, .i32⟩
  | 104 => ⟨S_, .i32⟩
  | 105 => ⟨S14720x1952, .i32⟩
  | 106 => ⟨S14720x1952, .i1⟩
  | 107 => ⟨S14720x1952, .i32⟩
  | 108 => ⟨S14720x1952, .i32⟩
  | 109 => ⟨S_, .i32⟩
  | 110 => ⟨S14720x1952, .i32⟩
  | 111 => ⟨S14720x1952, .i1⟩
  | 112 => ⟨S14720x1952, .i32⟩
  | 113 => ⟨S_, .i32⟩
  | 114 => ⟨S_, .i32⟩
  | 115 => ⟨S14720x1952, .i32⟩
  | 116 => ⟨S14720x1952, .i32⟩
  | 117 => ⟨S_, .i32⟩
  | 118 => ⟨S14720x1952, .i32⟩
  | 119 => ⟨S14720x1952, .i32⟩
  | 120 => ⟨S14720x1952, .i32⟩
  | 121 => ⟨S14720x1952, .i16⟩
  | 122 => ⟨S14720x1952, .bf16⟩
  | 123 => ⟨S96x1952x1, .bf16⟩
  | 124 => ⟨S96x1952, .bf16⟩
  | 125 => ⟨S96x14720, .f32⟩
  | 126 => ⟨S96x14720, .f32⟩
  | 127 => ⟨S_, .i32⟩
  | _ => ⟨S96x1x7808, .bf16⟩

abbrev hbmTy0_2 (i : Nat) : BufTy := match i % 128 with
  | 0 => ⟨S14720x1952, .i32⟩
  | 1 => ⟨S14720x1952, .i32⟩
  | 2 => ⟨S_, .i32⟩
  | 3 => ⟨S14720x1952, .i32⟩
  | 4 => ⟨S14720x1952, .i32⟩
  | 5 => ⟨S_, .i32⟩
  | 6 => ⟨S14720x1952, .i32⟩
  | 7 => ⟨S14720x1952, .i32⟩
  | 8 => ⟨S_, .i32⟩
  | 9 => ⟨S14720x1952, .i32⟩
  | 10 => ⟨S14720x1952, .i32⟩
  | 11 => ⟨S_, .i32⟩
  | 12 => ⟨S14720x1952, .i32⟩
  | 13 => ⟨S14720x1952, .i32⟩
  | 14 => ⟨S_, .i32⟩
  | 15 => ⟨S14720x1952, .i32⟩
  | 16 => ⟨S14720x1952, .i32⟩
  | 17 => ⟨S_, .i32⟩
  | 18 => ⟨S14720x1952, .i32⟩
  | 19 => ⟨S14720x1952, .i32⟩
  | 20 => ⟨S_, .i32⟩
  | 21 => ⟨S14720x1952, .i32⟩
  | 22 => ⟨S14720x1952, .i32⟩
  | 23 => ⟨S_, .i32⟩
  | 24 => ⟨S14720x1952, .i32⟩
  | 25 => ⟨S14720x1952, .i32⟩
  | 26 => ⟨S_, .i32⟩
  | 27 => ⟨S14720x1952, .i32⟩
  | 28 => ⟨S14720x1952, .i32⟩
  | 29 => ⟨S14720x1952, .i32⟩
  | 30 => ⟨S_, .i32⟩
  | 31 => ⟨S14720x1952, .i32⟩
  | 32 => ⟨S14720x1952, .i1⟩
  | 33 => ⟨S_, .i32⟩
  | 34 => ⟨S14720x1952, .i32⟩
  | 35 => ⟨S14720x1952, .i1⟩
  | 36 => ⟨S_, .i32⟩
  | 37 => ⟨S14720x1952, .i32⟩
  | 38 => ⟨S14720x1952, .i1⟩
  | 39 => ⟨S_, .i32⟩
  | 40 => ⟨S_, .i32⟩
  | 41 => ⟨S14720x1952, .i32⟩
  | 42 => ⟨S14720x1952, .i32⟩
  | 43 => ⟨S14720x1952, .i32⟩
  | 44 => ⟨S_, .i32⟩
  | 45 => ⟨S14720x1952, .i32⟩
  | 46 => ⟨S14720x1952, .i32⟩
  | 47 => ⟨S_, .i32⟩
  | 48 => ⟨S14720x1952, .i32⟩
  | 49 => ⟨S14720x1952, .i32⟩
  | 50 => ⟨S_, .i32⟩
  | 51 => ⟨S14720x1952, .i32⟩
  | 52 => ⟨S14720x1952, .i1⟩
  | 53 => ⟨S14720x1952, .i32⟩
  | 54 => ⟨S14720x1952, .i32⟩
  | 55 => ⟨S_, .i32⟩
  | 56 => ⟨S14720x1952, .i32⟩
  | 57 => ⟨S14720x1952, .i1⟩
  | 58 => ⟨S14720x1952, .i32⟩
  | 59 => ⟨S_, .i32⟩
  | 60 => ⟨S_, .i32⟩
  | 61 => ⟨S14720x1952, .i32⟩
  | 62 => ⟨S14720x1952, .i32⟩
  | 63 => ⟨S_, .i32⟩
  | 64 => ⟨S14720x1952, .i32⟩
  | 65 => ⟨S14720x1952, .i32⟩
  | 66 => ⟨S14720x1952, .i32⟩
  | 67 => ⟨S14720x1952, .i16⟩
  | 68 => ⟨S14720x1952, .bf16⟩
  | 69 => ⟨S96x1952x1, .bf16⟩
  | 70 => ⟨S96x1952, .bf16⟩
  | 71 => ⟨S96x14720, .f32⟩
  | 72 => ⟨S96x14720, .f32⟩
  | 73 => ⟨S1x14720, .f32⟩
  | 74 => ⟨S96x14720, .f32⟩
  | 75 => ⟨S96x14720, .f32⟩
  | 76 => ⟨S96x14720, .bf16⟩
  | _ => ⟨S96x1x7808, .bf16⟩

abbrev hbmTy (i : Nat) : BufTy := match i / 128 with
  | 0 => hbmTy0_0 i
  | 1 => hbmTy0_1 i
  | 2 => hbmTy0_2 i
  | _ => ⟨S96x1x7808, .bf16⟩

abbrev bufTy : (tb : Table) → Fin (tcTables nBuf tb) → BufTy
  | .hbm, ⟨i, _⟩ => hbmTy i
  | _, _ => ⟨S96x1x7808, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_c_8 : Ref sig .tc := ⟨.hbm, 43, rfl⟩
abbrev main_v30 : Ref sig .tc := ⟨.hbm, 44, rfl⟩
abbrev main_v31 : Ref sig .tc := ⟨.hbm, 45, rfl⟩
abbrev main_c_9 : Ref sig .tc := ⟨.hbm, 46, rfl⟩
abbrev main_v32 : Ref sig .tc := ⟨.hbm, 47, rfl⟩
abbrev main_v33 : Ref sig .tc := ⟨.hbm, 48, rfl⟩
abbrev main_c_10 : Ref sig .tc := ⟨.hbm, 49, rfl⟩
abbrev main_v34 : Ref sig .tc := ⟨.hbm, 50, rfl⟩
abbrev main_v35 : Ref sig .tc := ⟨.hbm, 51, rfl⟩
abbrev main_c_11 : Ref sig .tc := ⟨.hbm, 52, rfl⟩
abbrev main_v36 : Ref sig .tc := ⟨.hbm, 53, rfl⟩
abbrev main_v37 : Ref sig .tc := ⟨.hbm, 54, rfl⟩
abbrev main_c_12 : Ref sig .tc := ⟨.hbm, 55, rfl⟩
abbrev main_v38 : Ref sig .tc := ⟨.hbm, 56, rfl⟩
abbrev main_v39 : Ref sig .tc := ⟨.hbm, 57, rfl⟩
abbrev main_c_13 : Ref sig .tc := ⟨.hbm, 58, rfl⟩
abbrev main_v40 : Ref sig .tc := ⟨.hbm, 59, rfl⟩
abbrev main_v41 : Ref sig .tc := ⟨.hbm, 60, rfl⟩
abbrev main_c_14 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_15 : Ref sig .tc := ⟨.hbm, 65, rfl⟩
abbrev main_v45 : Ref sig .tc := ⟨.hbm, 66, rfl⟩
abbrev main_v46 : Ref sig .tc := ⟨.hbm, 67, rfl⟩
abbrev main_c_16 : Ref sig .tc := ⟨.hbm, 68, rfl⟩
abbrev main_v47 : Ref sig .tc := ⟨.hbm, 69, rfl⟩
abbrev main_v48 : Ref sig .tc := ⟨.hbm, 70, rfl⟩
abbrev main_c_17 : Ref sig .tc := ⟨.hbm, 71, rfl⟩
abbrev main_v49 : Ref sig .tc := ⟨.hbm, 72, rfl⟩
abbrev main_v50 : Ref sig .tc := ⟨.hbm, 73, rfl⟩
abbrev main_c_18 : Ref sig .tc := ⟨.hbm, 74, rfl⟩
abbrev main_c_19 : Ref sig .tc := ⟨.hbm, 75, rfl⟩
abbrev main_call0_v0 : Ref sig .tc := ⟨.hbm, 76, rfl⟩
abbrev main_call0_v1 : Ref sig .tc := ⟨.hbm, 77, rfl⟩
abbrev main_v51 : Ref sig .tc := ⟨.hbm, 78, rfl⟩
abbrev main_c_20 : Ref sig .tc := ⟨.hbm, 79, rfl⟩
abbrev main_call1_v0 : Ref sig .tc := ⟨.hbm, 80, rfl⟩
abbrev main_v52 : Ref sig .tc := ⟨.hbm, 81, rfl⟩
abbrev main_c_21 : Ref sig .tc := ⟨.hbm, 82, rfl⟩
abbrev main_call2_v0 : Ref sig .tc := ⟨.hbm, 83, rfl⟩
abbrev main_v53 : Ref sig .tc := ⟨.hbm, 84, rfl⟩
abbrev main_c_22 : Ref sig .tc := ⟨.hbm, 85, rfl⟩
abbrev main_v54 : Ref sig .tc := ⟨.hbm, 86, rfl⟩
abbrev main_v55 : Ref sig .tc := ⟨.hbm, 87, rfl⟩
abbrev main_call3_v0 : Ref sig .tc := ⟨.hbm, 88, rfl⟩
abbrev main_v56 : Ref sig .tc := ⟨.hbm, 89, rfl⟩
abbrev main_c_23 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_24 : Ref sig .tc := ⟨.hbm, 94, rfl⟩
abbrev main_call4_v0 : Ref sig .tc := ⟨.hbm, 95, rfl⟩
abbrev main_call4_v1 : Ref sig .tc := ⟨.hbm, 96, rfl⟩
abbrev main_v60 : Ref sig .tc := ⟨.hbm, 97, rfl⟩
abbrev main_c_25 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_c_26 : Ref sig .tc := ⟨.hbm, 107, rfl⟩
abbrev main_v69 : Ref sig .tc := ⟨.hbm, 108, rfl⟩
abbrev main_v70 : Ref sig .tc := ⟨.hbm, 109, rfl⟩
abbrev main_c_27 : Ref sig .tc := ⟨.hbm, 110, rfl⟩
abbrev main_v71 : Ref sig .tc := ⟨.hbm, 111, rfl⟩
abbrev main_v72 : Ref sig .tc := ⟨.hbm, 112, rfl⟩
abbrev main_c_28 : Ref sig .tc := ⟨.hbm, 113, rfl⟩
abbrev main_v73 : Ref sig .tc := ⟨.hbm, 114, rfl⟩
abbrev main_v74 : Ref sig .tc := ⟨.hbm, 115, rfl⟩
abbrev main_c_29 : Ref sig .tc := ⟨.hbm, 116, rfl⟩
abbrev main_v75 : Ref sig .tc := ⟨.hbm, 117, rfl⟩
abbrev main_v76 : Ref sig .tc := ⟨.hbm, 118, rfl⟩
abbrev main_c_30 : Ref sig .tc := ⟨.hbm, 119, rfl⟩
abbrev main_v77 : Ref sig .tc := ⟨.hbm, 120, rfl⟩
abbrev main_v78 : Ref sig .tc := ⟨.hbm, 121, rfl⟩
abbrev main_c_31 : Ref sig .tc := ⟨.hbm, 122, rfl⟩
abbrev main_v79 : Ref sig .tc := ⟨.hbm, 123, rfl⟩
abbrev main_v80 : Ref sig .tc := ⟨.hbm, 124, rfl⟩
abbrev main_c_32 : Ref sig .tc := ⟨.hbm, 125, rfl⟩
abbrev main_v81 : Ref sig .tc := ⟨.hbm, 126, rfl⟩
abbrev main_v82 : Ref sig .tc := ⟨.hbm, 127, rfl⟩
abbrev main_c_33 : Ref sig .tc := ⟨.hbm, 128, rfl⟩
abbrev main_v83 : Ref sig .tc := ⟨.hbm, 129, rfl⟩
abbrev main_v84 : Ref sig .tc := ⟨.hbm, 130, rfl⟩
abbrev main_c_34 : Ref sig .tc := ⟨.hbm, 131, rfl⟩
abbrev main_v85 : Ref sig .tc := ⟨.hbm, 132, rfl⟩
abbrev main_v86 : Ref sig .tc := ⟨.hbm, 133, rfl⟩
abbrev main_c_35 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_c_36 : Ref sig .tc := ⟨.hbm, 138, rfl⟩
abbrev main_v90 : Ref sig .tc := ⟨.hbm, 139, rfl⟩
abbrev main_v91 : Ref sig .tc := ⟨.hbm, 140, rfl⟩
abbrev main_c_37 : Ref sig .tc := ⟨.hbm, 141, rfl⟩
abbrev main_v92 : Ref sig .tc := ⟨.hbm, 142, rfl⟩
abbrev main_v93 : Ref sig .tc := ⟨.hbm, 143, rfl⟩
abbrev main_c_38 : Ref sig .tc := ⟨.hbm, 144, rfl⟩
abbrev main_v94 : Ref sig .tc := ⟨.hbm, 145, rfl⟩
abbrev main_v95 : Ref sig .tc := ⟨.hbm, 146, rfl⟩
abbrev main_c_39 : Ref sig .tc := ⟨.hbm, 147, rfl⟩
abbrev main_c_40 : Ref sig .tc := ⟨.hbm, 148, rfl⟩
abbrev main_call5_v0 : Ref sig .tc := ⟨.hbm, 149, rfl⟩
abbrev main_call5_v1 : Ref sig .tc := ⟨.hbm, 150, rfl⟩
abbrev main_v96 : Ref sig .tc := ⟨.hbm, 151, rfl⟩
abbrev main_c_41 : Ref sig .tc := ⟨.hbm, 152, rfl⟩
abbrev main_call6_v0 : Ref sig .tc := ⟨.hbm, 153, rfl⟩
abbrev main_v97 : Ref sig .tc := ⟨.hbm, 154, rfl⟩
abbrev main_c_42 : Ref sig .tc := ⟨.hbm, 155, rfl⟩
abbrev main_call7_v0 : Ref sig .tc := ⟨.hbm, 156, rfl⟩
abbrev main_v98 : Ref sig .tc := ⟨.hbm, 157, rfl⟩
abbrev main_c_43 : Ref sig .tc := ⟨.hbm, 158, rfl⟩
abbrev main_v99 : Ref sig .tc := ⟨.hbm, 159, rfl⟩
abbrev main_v100 : Ref sig .tc := ⟨.hbm, 160, rfl⟩
abbrev main_call8_v0 : Ref sig .tc := ⟨.hbm, 161, rfl⟩
abbrev main_v101 : Ref sig .tc := ⟨.hbm, 162, rfl⟩
abbrev main_c_44 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_c_45 : Ref sig .tc := ⟨.hbm, 167, rfl⟩
abbrev main_call9_v0 : Ref sig .tc := ⟨.hbm, 168, rfl⟩
abbrev main_call9_v1 : Ref sig .tc := ⟨.hbm, 169, rfl⟩
abbrev main_v105 : Ref sig .tc := ⟨.hbm, 170, rfl⟩
abbrev main_c_46 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_c_47 : Ref sig .tc := ⟨.hbm, 181, rfl⟩
abbrev main_v115 : Ref sig .tc := ⟨.hbm, 182, rfl⟩
abbrev main_v116 : Ref sig .tc := ⟨.hbm, 183, rfl⟩
abbrev main_c_48 : Ref sig .tc := ⟨.hbm, 184, rfl⟩
abbrev main_v117 : Ref sig .tc := ⟨.hbm, 185, rfl⟩
abbrev main_v118 : Ref sig .tc := ⟨.hbm, 186, rfl⟩
abbrev main_c_49 : Ref sig .tc := ⟨.hbm, 187, rfl⟩
abbrev main_v119 : Ref sig .tc := ⟨.hbm, 188, rfl⟩
abbrev main_v120 : Ref sig .tc := ⟨.hbm, 189, rfl⟩
abbrev main_c_50 : Ref sig .tc := ⟨.hbm, 190, rfl⟩
abbrev main_v121 : Ref sig .tc := ⟨.hbm, 191, rfl⟩
abbrev main_v122 : Ref sig .tc := ⟨.hbm, 192, rfl⟩
abbrev main_c_51 : Ref sig .tc := ⟨.hbm, 193, rfl⟩
abbrev main_v123 : Ref sig .tc := ⟨.hbm, 194, rfl⟩
abbrev main_v124 : Ref sig .tc := ⟨.hbm, 195, rfl⟩
abbrev main_c_52 : Ref sig .tc := ⟨.hbm, 196, rfl⟩
abbrev main_v125 : Ref sig .tc := ⟨.hbm, 197, rfl⟩
abbrev main_v126 : Ref sig .tc := ⟨.hbm, 198, rfl⟩
abbrev main_c_53 : Ref sig .tc := ⟨.hbm, 199, rfl⟩
abbrev main_v127 : Ref sig .tc := ⟨.hbm, 200, rfl⟩
abbrev main_v128 : Ref sig .tc := ⟨.hbm, 201, rfl⟩
abbrev main_c_54 : Ref sig .tc := ⟨.hbm, 202, rfl⟩
abbrev main_v129 : Ref sig .tc := ⟨.hbm, 203, rfl⟩
abbrev main_v130 : Ref sig .tc := ⟨.hbm, 204, rfl⟩
abbrev main_c_55 : Ref sig .tc := ⟨.hbm, 205, rfl⟩
abbrev main_v131 : Ref sig .tc := ⟨.hbm, 206, rfl⟩
abbrev main_v132 : Ref sig .tc := ⟨.hbm, 207, rfl⟩
abbrev main_c_56 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_c_57 : Ref sig .tc := ⟨.hbm, 212, rfl⟩
abbrev main_v136 : Ref sig .tc := ⟨.hbm, 213, rfl⟩
abbrev main_v137 : Ref sig .tc := ⟨.hbm, 214, rfl⟩
abbrev main_c_58 : Ref sig .tc := ⟨.hbm, 215, rfl⟩
abbrev main_v138 : Ref sig .tc := ⟨.hbm, 216, rfl⟩
abbrev main_v139 : Ref sig .tc := ⟨.hbm, 217, rfl⟩
abbrev main_c_59 : Ref sig .tc := ⟨.hbm, 218, rfl⟩
abbrev main_v140 : Ref sig .tc := ⟨.hbm, 219, rfl⟩
abbrev main_v141 : Ref sig .tc := ⟨.hbm, 220, rfl⟩
abbrev main_c_60 : Ref sig .tc := ⟨.hbm, 221, rfl⟩
abbrev main_c_61 : Ref sig .tc := ⟨.hbm, 222, rfl⟩
abbrev main_call10_v0 : Ref sig .tc := ⟨.hbm, 223, rfl⟩
abbrev main_call10_v1 : Ref sig .tc := ⟨.hbm, 224, rfl⟩
abbrev main_v142 : Ref sig .tc := ⟨.hbm, 225, rfl⟩
abbrev main_c_62 : Ref sig .tc := ⟨.hbm, 226, rfl⟩
abbrev main_call11_v0 : Ref sig .tc := ⟨.hbm, 227, rfl⟩
abbrev main_v143 : Ref sig .tc := ⟨.hbm, 228, rfl⟩
abbrev main_c_63 : Ref sig .tc := ⟨.hbm, 229, rfl⟩
abbrev main_call12_v0 : Ref sig .tc := ⟨.hbm, 230, rfl⟩
abbrev main_v144 : Ref sig .tc := ⟨.hbm, 231, rfl⟩
abbrev main_c_64 : Ref sig .tc := ⟨.hbm, 232, rfl⟩
abbrev main_v145 : Ref sig .tc := ⟨.hbm, 233, rfl⟩
abbrev main_v146 : Ref sig .tc := ⟨.hbm, 234, rfl⟩
abbrev main_call13_v0 : Ref sig .tc := ⟨.hbm, 235, rfl⟩
abbrev main_v147 : Ref sig .tc := ⟨.hbm, 236, rfl⟩
abbrev main_c_65 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_c_66 : Ref sig .tc := ⟨.hbm, 241, rfl⟩
abbrev main_call14_v0 : Ref sig .tc := ⟨.hbm, 242, rfl⟩
abbrev main_call14_v1 : Ref sig .tc := ⟨.hbm, 243, rfl⟩
abbrev main_v151 : Ref sig .tc := ⟨.hbm, 244, rfl⟩
abbrev main_c_67 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_c_68 : Ref sig .tc := ⟨.hbm, 255, rfl⟩
abbrev main_v161 : Ref sig .tc := ⟨.hbm, 256, rfl⟩
abbrev main_v162 : Ref sig .tc := ⟨.hbm, 257, rfl⟩
abbrev main_c_69 : Ref sig .tc := ⟨.hbm, 258, rfl⟩
abbrev main_v163 : Ref sig .tc := ⟨.hbm, 259, rfl⟩
abbrev main_v164 : Ref sig .tc := ⟨.hbm, 260, rfl⟩
abbrev main_c_70 : Ref sig .tc := ⟨.hbm, 261, rfl⟩
abbrev main_v165 : Ref sig .tc := ⟨.hbm, 262, rfl⟩
abbrev main_v166 : Ref sig .tc := ⟨.hbm, 263, rfl⟩
abbrev main_c_71 : Ref sig .tc := ⟨.hbm, 264, rfl⟩
abbrev main_v167 : Ref sig .tc := ⟨.hbm, 265, rfl⟩
abbrev main_v168 : Ref sig .tc := ⟨.hbm, 266, rfl⟩
abbrev main_c_72 : Ref sig .tc := ⟨.hbm, 267, rfl⟩
abbrev main_v169 : Ref sig .tc := ⟨.hbm, 268, rfl⟩
abbrev main_v170 : Ref sig .tc := ⟨.hbm, 269, rfl⟩
abbrev main_c_73 : Ref sig .tc := ⟨.hbm, 270, rfl⟩
abbrev main_v171 : Ref sig .tc := ⟨.hbm, 271, rfl⟩
abbrev main_v172 : Ref sig .tc := ⟨.hbm, 272, rfl⟩
abbrev main_c_74 : Ref sig .tc := ⟨.hbm, 273, rfl⟩
abbrev main_v173 : Ref sig .tc := ⟨.hbm, 274, rfl⟩
abbrev main_v174 : Ref sig .tc := ⟨.hbm, 275, rfl⟩
abbrev main_c_75 : Ref sig .tc := ⟨.hbm, 276, rfl⟩
abbrev main_v175 : Ref sig .tc := ⟨.hbm, 277, rfl⟩
abbrev main_v176 : Ref sig .tc := ⟨.hbm, 278, rfl⟩
abbrev main_c_76 : Ref sig .tc := ⟨.hbm, 279, rfl⟩
abbrev main_v177 : Ref sig .tc := ⟨.hbm, 280, rfl⟩
abbrev main_v178 : Ref sig .tc := ⟨.hbm, 281, rfl⟩
abbrev main_c_77 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_c_78 : Ref sig .tc := ⟨.hbm, 286, rfl⟩
abbrev main_v182 : Ref sig .tc := ⟨.hbm, 287, rfl⟩
abbrev main_v183 : Ref sig .tc := ⟨.hbm, 288, rfl⟩
abbrev main_c_79 : Ref sig .tc := ⟨.hbm, 289, rfl⟩
abbrev main_v184 : Ref sig .tc := ⟨.hbm, 290, rfl⟩
abbrev main_v185 : Ref sig .tc := ⟨.hbm, 291, rfl⟩
abbrev main_c_80 : Ref sig .tc := ⟨.hbm, 292, rfl⟩
abbrev main_v186 : Ref sig .tc := ⟨.hbm, 293, rfl⟩
abbrev main_v187 : Ref sig .tc := ⟨.hbm, 294, rfl⟩
abbrev main_c_81 : Ref sig .tc := ⟨.hbm, 295, rfl⟩
abbrev main_c_82 : Ref sig .tc := ⟨.hbm, 296, rfl⟩
abbrev main_call15_v0 : Ref sig .tc := ⟨.hbm, 297, rfl⟩
abbrev main_call15_v1 : Ref sig .tc := ⟨.hbm, 298, rfl⟩
abbrev main_v188 : Ref sig .tc := ⟨.hbm, 299, rfl⟩
abbrev main_c_83 : Ref sig .tc := ⟨.hbm, 300, rfl⟩
abbrev main_call16_v0 : Ref sig .tc := ⟨.hbm, 301, rfl⟩
abbrev main_v189 : Ref sig .tc := ⟨.hbm, 302, rfl⟩
abbrev main_c_84 : Ref sig .tc := ⟨.hbm, 303, rfl⟩
abbrev main_call17_v0 : Ref sig .tc := ⟨.hbm, 304, rfl⟩
abbrev main_v190 : Ref sig .tc := ⟨.hbm, 305, rfl⟩
abbrev main_c_85 : Ref sig .tc := ⟨.hbm, 306, rfl⟩
abbrev main_v191 : Ref sig .tc := ⟨.hbm, 307, rfl⟩
abbrev main_v192 : Ref sig .tc := ⟨.hbm, 308, rfl⟩
abbrev main_call18_v0 : Ref sig .tc := ⟨.hbm, 309, rfl⟩
abbrev main_v193 : Ref sig .tc := ⟨.hbm, 310, rfl⟩
abbrev main_c_86 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_c_87 : Ref sig .tc := ⟨.hbm, 315, rfl⟩
abbrev main_call19_v0 : Ref sig .tc := ⟨.hbm, 316, rfl⟩
abbrev main_call19_v1 : Ref sig .tc := ⟨.hbm, 317, rfl⟩
abbrev main_v197 : Ref sig .tc := ⟨.hbm, 318, rfl⟩
abbrev main_c_88 : Ref sig .tc := ⟨.hbm, 319, rfl⟩
abbrev main_v198 : Ref sig .tc := ⟨.hbm, 320, rfl⟩
abbrev main_v199 : Ref sig .tc := ⟨.hbm, 321, rfl⟩
abbrev main_v200 : Ref sig .tc := ⟨.hbm, 322, rfl⟩
abbrev main_v201 : Ref sig .tc := ⟨.hbm, 323, rfl⟩
abbrev main_v202 : Ref sig .tc := ⟨.hbm, 324, rfl⟩
abbrev main_v203 : Ref sig .tc := ⟨.hbm, 325, rfl⟩
abbrev main_v204 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_v208 : Ref sig .tc := ⟨.hbm, 330, rfl⟩
abbrev main_v209 : Ref sig .tc := ⟨.hbm, 331, rfl⟩
abbrev main_v210 : Ref sig .tc := ⟨.hbm, 332, rfl⟩

abbrev nD : Nat := 1
abbrev τ : Topo := Topo.v7x

variable {F : FTy → Type} [FloatOps F]
-- ==== Proof.Runs.lean ====
/- What the runs of the kernel body are stated over: the branch condition of the body, the staging memrefs of a grid point
   and the scratch buffers. -/
module

public import proofs.«01_k».proof.Proof.Gen.KernelIdeal.Skeleton
public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 29 = 0 :=
  (fun t => by
    have ht : t.val < 29 := Nat.lt_of_lt_of_eq t.isLt N_0
    have e0 : (grid0.coords t 0).val = t.val / 1 % 29 := Pipeline.Grid.coords_val t 0 (by decide) rfl
    simp only [cond0_0, e0]
    word_cmp
   : ∀ t : Fin grid0.N, cond0_0 (grid0.coords t) ↔ t.val % 29 = 0)

/-! ## The kernel body on any staging memrefs: a subtype the run finds -/

/-- One staging buffer of output window 4, through which its contents are stated (`View.read_writes_of_cover`: the
    choice does not matter). -/
abbrev VO0_4 : View sig .tc .vmem S96x512 .bf16 := (Memref.whole cc0_stg4_0 : Memref sig .tc .vmem S96x512 .bf16).view
/-- Each window's current staging memref at point `t`, spelled as the pipeline passes it (`bodyAt0`), and its wholeness. -/
abbrev ms0_0 (t : Fin cfg0.N) : Memref sig .tc .vmem S96x7808 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x1952x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S61x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x512 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S96x7808 .bf16 := Memref.whole cc0_scratch0
abbrev scM0_1 : Memref sig .tc .vmem S61x512 .i32 := Memref.whole cc0_scratch1
/-- The scratch `arg6` the kernel carries between points, as a view: what it holds is stated through it. -/
abbrev VS0_0 : View sig .tc .vmem S96x7808 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.RunA.lean ====
/- The run of the kernel body in case A. -/
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3120000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S96x7808 .bf16) (harg1 : arg1.IsWhole) (arg2 : Memref sig .tc .vmem S3x1952x512 .i8) (harg2 : arg2.IsWhole) (arg3 : Memref sig .tc .vmem S61x512 .i32) (harg3 : arg3.IsWhole) (arg4 : Memref sig .tc .vmem S1x512 .f32) (harg4 : arg4.IsWhole) (arg5 : Memref sig .tc .vmem S96x512 .bf16) (harg5 : arg5.IsWhole) (arg6 : Memref sig .tc .vmem S96x7808 .bf16) (harg6 : arg6.IsWhole) (arg7 : Memref sig .tc .vmem S61x512 .i32) (harg7 : arg7.IsWhole) (hc0 : cond0_0 i)
    (x0 : Vec F S96x7808 .bf16) (x1 : Vec F S3x1952x512 .i8) (x2 : Vec F S61x512 .i32) (x3 : Vec F S1x512 .f32) :
    Σ' (L4 : List (View.Piece (Elt F) S96x512 .bf16)), Σ' (LS0 : List (View.Piece (Elt F) S96x7808 .bf16)), { LT1 : List (View.Piece (Elt F) S61x512 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LT1)) -∗ K ⟨⟩))
          ⊢ wp frame (wpE (defs₀ (F := F)) Variants.none c none) E (cc0_fp6_linear i arg1 harg1 arg2 harg2 arg3 harg3 arg4 harg4 arg5 harg5 arg6 harg6 arg7 harg7) K } := by
  refine ⟨?_, ?_, ?_, fun E K => ?run⟩
  case run =>
    simp only [cc0_fp6_linear_eq_skeleton]; unfold cc0_fp6_linear_skel
    simp only [k0_part122_eq_skeleton, k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part123_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]; · iexists _; iexact HS0
    iexists _; iexact HS1

end Cert.KernelIdeal.Gen

end
-- ==== Proof.RunB.lean ====
/- The run of the kernel body in case B. -/
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1960000 in
/-- What the body's stores leave in each output's staging memref, as pieces (last first) IN CASE B (`scf.if` 0 not taken: points 1, 2, … 28: 28 of 29), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S96x7808 .bf16) (harg1 : arg1.IsWhole) (arg2 : Memref sig .tc .vmem S3x1952x512 .i8) (harg2 : arg2.IsWhole) (arg3 : Memref sig .tc .vmem S61x512 .i32) (harg3 : arg3.IsWhole) (arg4 : Memref sig .tc .vmem S1x512 .f32) (harg4 : arg4.IsWhole) (arg5 : Memref sig .tc .vmem S96x512 .bf16) (harg5 : arg5.IsWhole) (arg6 : Memref sig .tc .vmem S96x7808 .bf16) (harg6 : arg6.IsWhole) (arg7 : Memref sig .tc .vmem S61x512 .i32) (harg7 : arg7.IsWhole) (hc0 : ¬cond0_0 i)
    (x0 : Vec F S96x7808 .bf16) (x1 : Vec F S3x1952x512 .i8) (x2 : Vec F S61x512 .i32) (x3 : Vec F S1x512 .f32) (xs0 : Vec F S96x7808 .bf16) :
    Σ' (L4 : List (View.Piece (Elt F) S96x512 .bf16)), Σ' (LS0 : List (View.Piece (Elt F) S96x7808 .bf16)), { LT1 : List (View.Piece (Elt F) S61x512 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0 ∗ (∃ f, arg7.view.loc (c : Thread nD τ) ↦[arg7.view.set]{fullShare} arg7.view.writes (Elt F) f LT1)) -∗ K ⟨⟩))
          ⊢ wp frame (wpE (defs₀ (F := F)) Variants.none c none) E (cc0_fp6_linear i arg1 harg1 arg2 harg2 arg3 harg3 arg4 harg4 arg5 harg5 arg6 harg6 arg7 harg7) K } := by
  refine ⟨?_, [], ?_, fun E K => ?run⟩
  case run =>
    simp only [cc0_fp6_linear_eq_skeleton]; unfold cc0_fp6_linear_skel
    simp only [k0_part122_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part123_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists _; isplitr; · ipureintro; exact harg6.read_unread _
      iexact HS0
    iexists _; iexact HS1

end Cert.KernelIdeal.Gen

end
-- ==== Proof.RunFrame.lean ====
/- The frame of the kernel at any float values: every execution of @main terminates, the argument arrays end as launched and
   every semaphore counter ends at zero. Nothing is said here of what the windows' buffers hold, so every window is forgotten:
   each staging buffer is handed to the body at any contents and taken back at any contents. -/
module

public import proofs.«01_k».proof.Proof.RunA
public import proofs.«01_k».proof.Proof.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is forgotten: the frame reads none of the pipeline's arrays. -/
def forgets0 : Fin 5 → Bool := fun _ => true

/-- The frame's proof data: the arrays as the region finds them, nothing named of what the body leaves, the scratch buffers at
    anything between points. -/
def fdats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem fA_eq (c : Dev nD) (w : Fin cfg0.W) : (fdats m 0 c).A w = V m c (Pipeline.arrRef spec0 w) := by dsimp only [fdats]

/-- What the body is called with at a point, and (the same) what it returns: each staging buffer at some contents. -/
def fbody (c : Dev nD) (t : Fin cfg0.N) : sProp 𝕄 :=
  iprop(Pipeline.ΦA spec0 c ∗ (fdats m 0 c).owesAt () t.castSucc
    ∗ (∃ d, owns (c : Thread nD τ) (ms0_0 t) fullShare d)
    ∗ (∃ d, owns (c : Thread nD τ) (ms0_1 t) fullShare d)
    ∗ (∃ d, owns (c : Thread nD τ) (ms0_2 t) fullShare d)
    ∗ (∃ d, owns (c : Thread nD τ) (ms0_3 t) fullShare d)
    ∗ (∃ d, owns (c : Thread nD τ) (ms0_4 t) fullShare d))

set_option maxHeartbeats 3200000 in
/-- The body at any point, by its run in the case the point is in. -/
theorem fsound_body (c : Dev nD) (t : Fin cfg0.N) :
    fbody m c t ⊢ wp frame (wpE (defs₀ (F := F)) Variants.none c none) Set.univ (bodyAt0 t) (fun _ => fbody m c t) := by
  unfold fbody bodyAt0
  rw [PhiA0_eq]
  by_cases h0 : cond0_0 (grid0.coords t)
  · iintro ⟨⟨⟨HS0, HS1⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ h0 d0 d1 d2 d3).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, ⟨%es0, HS0⟩, ⟨%fT1, HS1⟩⟩
    isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    isplitl [Ho]; · iexact Ho
    isplitl [H0]; · iexists _; iexact H0
    isplitl [H1]; · iexists _; iexact H1
    isplitl [H2]; · iexists _; iexact H2
    isplitl [H3]; · iexists _; iexact H3
    iexists _; unfold owns; iexists _; isplitr
    swap; · iexact H4
    ipureintro; rfl
  · iintro ⟨⟨⟨⟨%xs, HS0⟩, HS1⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ h0 d0 d1 d2 d3 xs).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, HS0, ⟨%fT1, HS1⟩⟩
    isplitl [HS0 HS1 Hg]
    · isplitl [HS0 HS1]
      · isplitl [HS0]
        · iexists _; iexact HS0
        iexists _; unfold owns; iexists _; isplitr
        swap; · iexact HS1
        ipureintro; rfl
      iexact Hg
    isplitl [Ho]; · iexact Ho
    isplitl [H0]; · iexists _; iexact H0
    isplitl [H1]; · iexists _; iexact H1
    isplitl [H2]; · iexists _; iexact H2
    isplitl [H3]; · iexists _; iexact H3
    iexists _; unfold owns; iexists _; isplitr
    swap; · iexact H4
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation with every window forgotten. -/
theorem fbody_obligation (c : Dev nD) :
    BodyObligation (fdats (F := F) m 0 c) (defs₀ (F := F)) Variants.none () Set.univ forgets0 := fun t => by
  rw [bigSep_W0, bigSep_W0, defs₀_row]
  exact triple_restated (fsound_body m c t) rfl .rfl fun _ => .rfl

-- the launch theorem's implicit arguments are found by unifying its conclusion with this statement, which takes unfolding
-- plain definitions in a metavariable's type
set_option backward.isDefEq.respectTransparency.types false in
/-- The launch: every execution of @main terminates, every buffer that is no window's array ends as the region found it, and
    every semaphore counter ends at zero. -/
theorem frun_main : θ_run defs (onTc (τ := τ) (main (F := F))) (s₀ m ρ)
    (fun r => Pipeline.RDat.FramePost (cfgs 0) (fun c => (fdats m 0 c).toRForget forgets0) (V m) r ∧ r.2.sem = fun _ => 0) :=
  Pipeline.θ_run_frame_forget (Q' := _) cfgs (fdats m) (0 : Fin 1) launch0 defs₀ Variants.none forgets0 m ρ main
    (hbody := fun c => (fbody_obligation m c).loose) (hshare := fun c => (fdats m 0 c).share_full fun _ => rfl)
    (howed := fun _ _ => rfl) (V := V m) (hmain := hmain m Variants.none) (hA := fA_eq m) (hΦ := fun _ _ => rfl)

/-- The frame: the argument arrays end unchanged and the machine is quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (frun_main m ρ)

end Cert.KernelIdeal.Gen

end
-- ==== Proof.KernelFrame.lean ====
/- The frame of the kernel as it runs, from the frame at any float values: the program read at machine words and the program
   read at the reals are printed from one text, so their bodies, their tables and @main are the same terms. -/
module

public import proofs.«01_k».proof.Proof.RunFrame
public import proofs.«01_k».proof.Proof.Gen.Kernel

@[expose] public section

set_option maxRecDepth 16384

noncomputable section

namespace Cert.KernelIdeal.Gen

open Idealize.ShloMosaic Idealize.ShloMosaic.TcCoe Idealize.SL.Sem

variable {F : FTy → Type} [FloatOps F]

/-- The two programs' kernel bodies are one term. -/
theorem body_eq (i arg1) (harg1 : arg1.IsWhole) (arg2) (harg2 : arg2.IsWhole) (arg3) (harg3 : arg3.IsWhole) (arg4)
    (harg4 : arg4.IsWhole) (arg5) (harg5 : arg5.IsWhole) (arg6) (harg6 : arg6.IsWhole) (arg7) (harg7 : arg7.IsWhole) :
    Cert.Kernel.cc0_fp6_linear (F := F) i arg1 harg1 arg2 harg2 arg3 harg3 arg4 harg4 arg5 harg5 arg6 harg6 arg7 harg7
      = cc0_fp6_linear (F := F) i arg1 harg1 arg2 harg2 arg3 harg3 arg4 harg4 arg5 harg5 arg6 harg6 arg7 harg7 := by rfl

/-- So are the tables of bodies, -/
theorem defs₀_eq : Cert.Kernel.defs₀ (F := F) = defs₀ (F := F) := by
  unfold Cert.Kernel.defs₀ defs₀
  refine congrArg (Defs.onTc (Λ := Λ₀)) (funext fun l => funext fun x => ?_)
  obtain ⟨_ | n, h⟩ := l
  · obtain ⟨t, s⟩ := x
    exact body_eq _ _ _ _ _ _ _ _ _ _ _ _ _ _ _
  · exact absurd h (Nat.not_lt.2 (Nat.le_add_left _ _))

theorem defs_eq : Cert.Kernel.defs (F := F) = defs (F := F) :=
  congrArg (Pipeline.defs (pcfgs (F := F))) defs₀_eq

/-- and @main. -/
theorem main_eq : Cert.Kernel.main (F := F) = main (F := F) := by rfl

/-- The frame of the kernel as it runs. -/
theorem frame_kernel (m : (ℓ : Loc nD τ sig) → Buf (Elt F) ℓ) (ρ : Dev nD → PrngReg) :
    θ_run (Cert.Kernel.defs (F := F)) (onTc (τ := τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq, main_eq]
  exact frame m ρ

end Cert.KernelIdeal.Gen

end
-- ==== Proof.RefFrame.lean ====
/- The frame of the reference: its run leaves the arguments as launched, and its signature has no semaphore, so the counters
   are zero in every state. -/
module

public import proofs.«01_k».proof.Proof.Gen.ReferenceIdeal.Run
public import Idealize.ShloMosaic.Lib.Quiescent

@[expose] public section

noncomputable section

namespace Cert.ReferenceIdeal.Value

open Idealize.ShloMosaic Idealize.ShloMosaic.TcCoe Idealize.SL.Sem

variable {F : FTy → Type} [FloatOps F]

/-- The reference's frame. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (run m ρ)

end Cert.ReferenceIdeal.Value

end
-- ==== Proof.Step.lean ====
/- One uniform statement of what the kernel stores. The printed body repeats the same decode for every
   group of weights; here the decode of a group, the step of a pair of groups and the chain of the steps
   are each defined once. -/
module

public import proofs.«01_k».proof.Proof.Runs

@[expose] public section

set_option maxRecDepth 16384

noncomputable section

namespace Cert.KernelIdeal.Gen

open Idealize.ShloMosaic Idealize.ShloMosaic.TcCoe Idealize.ShloMosaic.Tactic

variable {F : FTy → Type} [FloatOps F]

/-- A plane of packed bytes read as words, four rows to a word. -/
def words (v : Vec F S1x32x512 .i8) : IVec S8x512 32 :=
  bitcast S8x512 32 (shapeCast S32x512 v shapeCasts_S1x32x512_S32x512) bitcasts_S32x512_w8_S8x512_w32

/-- The row of scales of a group: each word holds one scale twice. -/
def scaleRow (v : Vec F S1x512 .i32) : FVec F S32x512 .bf16 :=
  bitcastToFloat .bf16 (bitcast S32x512 16 (broadcastTo S16x512 (shapeCast S1x512 v shapeCasts_S1x512_S1x512)
    broadcasts_S1x512_S16x512) bitcasts_S16x512_w32_S32x512_w16)

/-- The four fields of a packed row, each a byte that is an fp8 code, as words. -/
def field0 (a : IVec S8x512 32) : IVec S8x512 32 :=
  ori (andi (shli a (broadcast S8x512 1#32)) (broadcast S8x512 1044266558#32))
    (andi (shli a (broadcast S8x512 2#32)) (broadcast S8x512 2155905152#32))
def field1 (a b : IVec S8x512 32) : IVec S8x512 32 :=
  ori (addi (andi (shli b (broadcast S8x512 3#32)) (broadcast S8x512 2021161080#32))
      (andi (shli b (broadcast S8x512 3#32)) (broadcast S8x512 1077952576#32)))
    (andi (shrui a (broadcast S8x512 5#32)) (broadcast S8x512 101058054#32))
def field2 (b c : IVec S8x512 32) : IVec S8x512 32 :=
  ori (addi (andi (shli c (broadcast S8x512 5#32)) (broadcast S8x512 1616928864#32))
      (andi (shli c (broadcast S8x512 5#32)) (broadcast S8x512 1077952576#32)))
    (andi (shrui b (broadcast S8x512 3#32)) (broadcast S8x512 505290270#32))
def field3 (c : IVec S8x512 32) : IVec S8x512 32 :=
  ori (andi (shrui c (broadcast S8x512 1#32)) (broadcast S8x512 1044266558#32))
    (andi c (broadcast S8x512 2155905152#32))

/-- A field's codes as weights, at the group's scales. -/
def tile (w : IVec S8x512 32) (s : FVec F S32x512 .bf16) : FVec F S32x512 .bf16 :=
  mulf (extf .bf16 (bitcastToFloat .fp8e4m3 (bitcast S32x512 8 w bitcasts_S8x512_w32_S32x512_w8) : FVec F S32x512 .fp8e4m3)
    bitsLt_fp8e4m3_bf16) s

def tile0 (W : Fin 3 → Vec F S1x32x512 .i8) (S : Vec F S1x512 .i32) : FVec F S32x512 .bf16 :=
  tile (field0 (words (W 0))) (scaleRow S)
def tile1 (W : Fin 3 → Vec F S1x32x512 .i8) (S : Vec F S1x512 .i32) : FVec F S32x512 .bf16 :=
  tile (field1 (words (W 0)) (words (W 1))) (scaleRow S)
def tile2 (W : Fin 3 → Vec F S1x32x512 .i8) (S : Vec F S1x512 .i32) : FVec F S32x512 .bf16 :=
  tile (field2 (words (W 1)) (words (W 2))) (scaleRow S)
def tile3 (W : Fin 3 → Vec F S1x32x512 .i8) (S : Vec F S1x512 .i32) : FVec F S32x512 .bf16 :=
  tile (field3 (words (W 2))) (scaleRow S)

/-- The weights of two groups, one above the other. -/
def pairTile (W W' : Fin 3 → Vec F S1x32x512 .i8) (S S' : Vec F S1x512 .i32) : FVec F S256x512 .bf16 :=
  concatenate S256x512 0 [⟨S32x512, tile0 W S⟩, ⟨S32x512, tile1 W S⟩, ⟨S32x512, tile2 W S⟩, ⟨S32x512, tile3 W S⟩,
    ⟨S32x512, tile0 W' S'⟩, ⟨S32x512, tile1 W' S'⟩, ⟨S32x512, tile2 W' S'⟩, ⟨S32x512, tile3 W' S'⟩]
    concatenates_S32x512_S32x512_S32x512_S32x512_S32x512_S32x512_S32x512_S32x512_S256x512_d0

/-- The weights of one group. -/
def lastTile (W : Fin 3 → Vec F S1x32x512 .i8) (S : Vec F S1x512 .i32) : FVec F S128x512 .bf16 :=
  concatenate S128x512 0 [⟨S32x512, tile0 W S⟩, ⟨S32x512, tile1 W S⟩, ⟨S32x512, tile2 W S⟩, ⟨S32x512, tile3 W S⟩]
    concatenates_S32x512_S32x512_S32x512_S32x512_S128x512_d0

/-- The sums after the first `k` pairs of groups. -/
def pairs (X : ℕ → Vec F S96x256 .bf16) (W : ℕ → Fin 3 → Vec F S1x32x512 .i8) (S : ℕ → Vec F S1x512 .i32) :
    ℕ → FVec F S96x512 .f32
  | 0 => broadcast S96x512 (Scalar.ofBits .f32 0x00000000#32)
  | k + 1 => addf (pairs X W S k) (matmul dot_S96x256_S256x512_S96x512_1_0_0_1_n_n none (X k)
      (pairTile (W (2 * k)) (W (2 * k + 1)) (S (2 * k)) (S (2 * k + 1))) (constant S96x512 .f32 0x00000000#32))

/-- What the kernel stores at a point: the 30 pairs, the last group, and the scale of each column. -/
def outTile (X : ℕ → Vec F S96x256 .bf16) (XL : Vec F S96x128 .bf16) (W : ℕ → Fin 3 → Vec F S1x32x512 .i8)
    (S : ℕ → Vec F S1x512 .i32) (R : Vec F S1x512 .f32) : FVec F S96x512 .bf16 :=
  truncf .bf16 (mulf (addf (pairs X W S 30) (matmul dot_S96x128_S128x512_S96x512_1_0_0_1_n_n none XL (lastTile (W 60) (S 60))
      (constant S96x512 .f32 0x00000000#32)))
    (broadcastTo S96x512 (shapeCast S1x512 R shapeCasts_S1x512_S1x512) broadcasts_S1x512_S96x512)) bitsLt_bf16_f32

theorem inbX (k : ℕ) : ∀ a, (![0, 256 * (k % 30)] : Fin 2 → ℕ) a + S96x256.size a ≤ S96x7808.size a := by
  have := Nat.mod_lt k (show 30 > 0 by decide)
  intro a; fin_cases a <;> simp [S96x256, S96x7808]; omega
theorem inbW (p : Fin 3) (g : ℕ) : ∀ a, (![p.val, 32 * (g % 61), 0] : Fin 3 → ℕ) a + S1x32x512.size a ≤ S3x1952x512.size a := by
  have := Nat.mod_lt g (show 61 > 0 by decide)
  have := p.isLt
  intro a; fin_cases a <;> simp [S1x32x512, S3x1952x512] <;> omega
theorem inbS (g : ℕ) : ∀ a, (![g % 61, 0] : Fin 2 → ℕ) a + S1x512.size a ≤ S61x512.size a := by
  have := Nat.mod_lt g (show 61 > 0 by decide)
  intro a; fin_cases a <;> simp [S1x512, S61x512]; omega

theorem inbP (g : ℕ) : ∀ a, (![0, 128 * (g % 61)] : Fin 2 → ℕ) a + S96x128.size a ≤ S96x7808.size a := by
  have := Nat.mod_lt g (show 61 > 0 by decide)
  intro a; fin_cases a <;> simp [S96x128, S96x7808]; omega

/-- The columns of a group. -/
abbrev rectP (g : ℕ) : Rect S96x7808 := Rect.unit (s := S96x7808) ![0, 128 * (g % 61)] S96x128.size (inbP g)

/-- What the first point leaves of the permuted activations: the groups, the last first. -/
def permuted {v1 : View sig .tc .vmem S96x7808 .bf16} (f1 : v1.ty.Contents (Elt F)) : List (View.Piece (Elt F) S96x7808 .bf16) :=
  ((List.range 61).map fun g => ⟨rectP g, k0_pay3 k0_pay2 (v1.readAt (Elt F) (rectP g).toLoadRect f1)⟩).reverse

/-- What the kernel stores at a point, from the contents of the buffers it reads: the permuted activations, the planes of
    packed bytes, the scales of the groups, the scales of the columns. -/
def stored {v6 : View sig .tc .vmem S96x7808 .bf16} (f6 : v6.ty.Contents (Elt F)) {v2 : View sig .tc .vmem S3x1952x512 .i8}
    (f2 : v2.ty.Contents (Elt F)) {v7 : View sig .tc .vmem S61x512 .i32} (f7 : v7.ty.Contents (Elt F))
    {v4 : View sig .tc .vmem S1x512 .f32} (f4 : v4.ty.Contents (Elt F)) : FVec F S96x512 .bf16 :=
  outTile (fun k => v6.readAt (Elt F) (Rect.unit (s := S96x7808) ![0, 256 * (k % 30)] S96x256.size (inbX k)).toLoadRect f6)
    (v6.readAt (Elt F) (Rect.unit (s := S96x7808) ![0, 7680] S96x128.size inb_S96x7808_S96x128_0_7680).toLoadRect f6)
    (fun g p => v2.readAt (Elt F) (Rect.unit (s := S3x1952x512) ![p.val, 32 * (g % 61), 0] S1x32x512.size (inbW p g)).toLoadRect f2)
    (fun g => v7.readAt (Elt F) (Rect.unit (s := S61x512) ![g % 61, 0] S1x512.size (inbS g)).toLoadRect f7)
    (v4.readAt (Elt F) (Rect.unit (s := S1x512) ![0, 0] S1x512.size inb_S1x512_S1x512_0_0).toLoadRect f4)

end Cert.KernelIdeal.Gen
-- ==== Proof.StepA.lean ====
/- What the kernel stores at a first point is the uniform chain of `Step`. -/
module

public import proofs.«01_k».proof.Proof.Step
public import proofs.«01_k».proof.Proof.RunA

@[expose] public section

set_option maxRecDepth 16384

noncomputable section

namespace Cert.KernelIdeal.Gen

open Idealize.ShloMosaic Idealize.ShloMosaic.TcCoe Idealize.ShloMosaic.Tactic

variable {F : FTy → Type} [FloatOps F]

set_option maxHeartbeats 4000000 in
/-- What the run stores into the output at a first point. -/
theorem pieces_A (c : Dev nD) (i : grid0.Coords) (arg1 : Memref sig .tc .vmem S96x7808 .bf16) (harg1 : arg1.IsWhole) (arg2 : Memref sig .tc .vmem S3x1952x512 .i8) (harg2 : arg2.IsWhole) (arg3 : Memref sig .tc .vmem S61x512 .i32) (harg3 : arg3.IsWhole) (arg4 : Memref sig .tc .vmem S1x512 .f32) (harg4 : arg4.IsWhole) (arg5 : Memref sig .tc .vmem S96x512 .bf16) (harg5 : arg5.IsWhole) (arg6 : Memref sig .tc .vmem S96x7808 .bf16) (harg6 : arg6.IsWhole) (arg7 : Memref sig .tc .vmem S61x512 .i32) (harg7 : arg7.IsWhole) (hc0 : cond0_0 i)
    (x0 : Vec F S96x7808 .bf16) (x1 : Vec F S3x1952x512 .i8) (x2 : Vec F S61x512 .i32) (x3 : Vec F S1x512 .f32) :
    (kernelRun0_A c i arg1 harg1 arg2 harg2 arg3 harg3 arg4 harg4 arg5 harg5 arg6 harg6 arg7 harg7 hc0 x0 x1 x2 x3).1
      = [⟨Rect.unit (s := S96x512) ![0, 0] S96x512.size inb_S96x512_S96x512_0_0,
          stored (arg6.view.writes (Elt F) arg6.view.junk (permuted (harg1.unread x0))) (harg2.unread x1)
            (arg7.view.writes (Elt F) arg7.view.junk (kernelRun0_A c i arg1 harg1 arg2 harg2 arg3 harg3 arg4 harg4 arg5 harg5 arg6 harg6 arg7 harg7 hc0 x0 x1 x2 x3).2.2.1)
            (harg4.unread x3)⟩] := by
  sl_kernel_rfl

set_option maxHeartbeats 4000000 in
/-- What the run leaves of the permuted activations at the first point. -/
theorem perm_A (c : Dev nD) (i : grid0.Coords) (arg1 : Memref sig .tc .vmem S96x7808 .bf16) (harg1 : arg1.IsWhole) (arg2 : Memref sig .tc .vmem S3x1952x512 .i8) (harg2 : arg2.IsWhole) (arg3 : Memref sig .tc .vmem S61x512 .i32) (harg3 : arg3.IsWhole) (arg4 : Memref sig .tc .vmem S1x512 .f32) (harg4 : arg4.IsWhole) (arg5 : Memref sig .tc .vmem S96x512 .bf16) (harg5 : arg5.IsWhole) (arg6 : Memref sig .tc .vmem S96x7808 .bf16) (harg6 : arg6.IsWhole) (arg7 : Memref sig .tc .vmem S61x512 .i32) (harg7 : arg7.IsWhole) (hc0 : cond0_0 i)
    (x0 : Vec F S96x7808 .bf16) (x1 : Vec F S3x1952x512 .i8) (x2 : Vec F S61x512 .i32) (x3 : Vec F S1x512 .f32) :
    (kernelRun0_A c i arg1 harg1 arg2 harg2 arg3 harg3 arg4 harg4 arg5 harg5 arg6 harg6 arg7 harg7 hc0 x0 x1 x2 x3).2.1 = permuted (harg1.unread x0) := by
  sl_kernel_rfl

set_option maxHeartbeats 4000000 in
/-- What the run leaves of the scales of the groups. -/
theorem scales_A (c : Dev nD) (i : grid0.Coords) (arg1 : Memref sig .tc .vmem S96x7808 .bf16) (harg1 : arg1.IsWhole) (arg2 : Memref sig .tc .vmem S3x1952x512 .i8) (harg2 : arg2.IsWhole) (arg3 : Memref sig .tc .vmem S61x512 .i32) (harg3 : arg3.IsWhole) (arg4 : Memref sig .tc .vmem S1x512 .f32) (harg4 : arg4.IsWhole) (arg5 : Memref sig .tc .vmem S96x512 .bf16) (harg5 : arg5.IsWhole) (arg6 : Memref sig .tc .vmem S96x7808 .bf16) (harg6 : arg6.IsWhole) (arg7 : Memref sig .tc .vmem S61x512 .i32) (harg7 : arg7.IsWhole) (hc0 : cond0_0 i)
    (x0 : Vec F S96x7808 .bf16) (x1 : Vec F S3x1952x512 .i8) (x2 : Vec F S61x512 .i32) (x3 : Vec F S1x512 .f32) :
    (kernelRun0_A c i arg1 harg1 arg2 harg2 arg3 harg3 arg4 harg4 arg5 harg5 arg6 harg6 arg7 harg7 hc0 x0 x1 x2 x3).2.2.1 = [⟨Rect.unit (s := S61x512) ![0, 0] S61x512.size inb_S61x512_S61x512_0_0,
      k0_pay92 (arg3.view.readAt (Elt F) (Rect.unit (s := S61x512) ![0, 0] S61x512.size inb_S61x512_S61x512_0_0).toLoadRect (harg3.unread x2))⟩] := by
  sl_kernel_rfl

end Cert.KernelIdeal.Gen
-- ==== Proof.StepB.lean ====
/- What the kernel stores at a later point is the uniform chain of `Step`. -/
module

public import proofs.«01_k».proof.Proof.Step
public import proofs.«01_k».proof.Proof.RunB

@[expose] public section

set_option maxRecDepth 16384

noncomputable section

namespace Cert.KernelIdeal.Gen

open Idealize.ShloMosaic Idealize.ShloMosaic.TcCoe Idealize.ShloMosaic.Tactic

variable {F : FTy → Type} [FloatOps F]

set_option maxHeartbeats 4000000 in
/-- What the run stores into the output at a later point. -/
theorem pieces_B (c : Dev nD) (i : grid0.Coords) (arg1 : Memref sig .tc .vmem S96x7808 .bf16) (harg1 : arg1.IsWhole) (arg2 : Memref sig .tc .vmem S3x1952x512 .i8) (harg2 : arg2.IsWhole) (arg3 : Memref sig .tc .vmem S61x512 .i32) (harg3 : arg3.IsWhole) (arg4 : Memref sig .tc .vmem S1x512 .f32) (harg4 : arg4.IsWhole) (arg5 : Memref sig .tc .vmem S96x512 .bf16) (harg5 : arg5.IsWhole) (arg6 : Memref sig .tc .vmem S96x7808 .bf16) (harg6 : arg6.IsWhole) (arg7 : Memref sig .tc .vmem S61x512 .i32) (harg7 : arg7.IsWhole) (hc0 : ¬cond0_0 i)
    (x0 : Vec F S96x7808 .bf16) (x1 : Vec F S3x1952x512 .i8) (x2 : Vec F S61x512 .i32) (x3 : Vec F S1x512 .f32) (xs0 : Vec F S96x7808 .bf16) :
    (kernelRun0_B c i arg1 harg1 arg2 harg2 arg3 harg3 arg4 harg4 arg5 harg5 arg6 harg6 arg7 harg7 hc0 x0 x1 x2 x3 xs0).1
      = [⟨Rect.unit (s := S96x512) ![0, 0] S96x512.size inb_S96x512_S96x512_0_0,
          stored (harg6.unread xs0) (harg2.unread x1)
            (arg7.view.writes (Elt F) arg7.view.junk (kernelRun0_B c i arg1 harg1 arg2 harg2 arg3 harg3 arg4 harg4 arg5 harg5 arg6 harg6 arg7 harg7 hc0 x0 x1 x2 x3 xs0).2.2.1)
            (harg4.unread x3)⟩] := by
  sl_kernel_rfl

set_option maxHeartbeats 4000000 in
/-- What the run leaves of the scales of the groups. -/
theorem scales_B (c : Dev nD) (i : grid0.Coords) (arg1 : Memref sig .tc .vmem S96x7808 .bf16) (harg1 : arg1.IsWhole) (arg2 : Memref sig .tc .vmem S3x1952x512 .i8) (harg2 : arg2.IsWhole) (arg3 : Memref sig .tc .vmem S61x512 .i32) (harg3 : arg3.IsWhole) (arg4 : Memref sig .tc .vmem S1x512 .f32) (harg4 : arg4.IsWhole) (arg5 : Memref sig .tc .vmem S96x512 .bf16) (harg5 : arg5.IsWhole) (arg6 : Memref sig .tc .vmem S96x7808 .bf16) (harg6 : arg6.IsWhole) (arg7 : Memref sig .tc .vmem S61x512 .i32) (harg7 : arg7.IsWhole) (hc0 : ¬cond0_0 i)
    (x0 : Vec F S96x7808 .bf16) (x1 : Vec F S3x1952x512 .i8) (x2 : Vec F S61x512 .i32) (x3 : Vec F S1x512 .f32) (xs0 : Vec F S96x7808 .bf16) :
    (kernelRun0_B c i arg1 harg1 arg2 harg2 arg3 harg3 arg4 harg4 arg5 harg5 arg6 harg6 arg7 harg7 hc0 x0 x1 x2 x3 xs0).2.2.1 = [⟨Rect.unit (s := S61x512) ![0, 0] S61x512.size inb_S61x512_S61x512_0_0,
      k0_pay92 (arg3.view.readAt (Elt F) (Rect.unit (s := S61x512) ![0, 0] S61x512.size inb_S61x512_S61x512_0_0).toLoadRect (harg3.unread x2))⟩] := by
  sl_kernel_rfl

end Cert.KernelIdeal.Gen
-- ==== Proof.Contents.lean ====
/- What the stores of a point leave, as functions of what the buffers it reads hold. -/
module

public import proofs.«01_k».proof.Proof.StepA
public import proofs.«01_k».proof.Proof.StepB
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic

variable {F : FTy → Type} [FloatOps F]

/-- The pieces of the permuted activations, of the activations. -/
def permPieces (x : Vec F S96x7808 .bf16) : List (View.Piece (Elt F) S96x7808 .bf16) :=
  ((List.range 61).map fun g => ⟨rectP g, k0_pay3 k0_pay2 (View.ld (Val := Elt F) (e' := .bf16) x (rectP g))⟩).reverse

/-- The permuted activations. -/
def permX (x : Vec F S96x7808 .bf16) : Vec F S96x7808 .bf16 := View.canon (Val := Elt F) (permPieces x)

/-- What a point stores, of the permuted activations, the planes of packed bytes, the scales of the groups as given and the
    scales of the columns. -/
def tileOf (xp : Vec F S96x7808 .bf16) (w : Vec F S3x1952x512 .i8) (s : Vec F S61x512 .i32) (r : Vec F S1x512 .f32) : Vec F S96x512 .bf16 :=
  outTile (fun k => View.ld (Val := Elt F) (e' := .bf16) xp (Rect.unit (s := S96x7808) ![0, 256 * (k % 30)] S96x256.size (inbX k)))
    (View.ld (Val := Elt F) (e' := .bf16) xp (Rect.unit (s := S96x7808) ![0, 7680] S96x128.size inb_S96x7808_S96x128_0_7680))
    (fun g p => View.ld (Val := Elt F) (e' := .i8) w (Rect.unit (s := S3x1952x512) ![p.val, 32 * (g % 61), 0] S1x32x512.size (inbW p g)))
    (fun g => View.ld (Val := Elt F) (e' := .i32) (k0_pay92 (F := F) s) (Rect.unit (s := S61x512) ![g % 61, 0] S1x512.size (inbS g)))
    (View.ld (Val := Elt F) (e' := .f32) r (Rect.unit (s := S1x512) ![0, 0] S1x512.size inb_S1x512_S1x512_0_0))

theorem stored_eq {v6 : View sig .tc .vmem S96x7808 .bf16} (f6 : v6.ty.Contents (Elt F)) {v2 : View sig .tc .vmem S3x1952x512 .i8}
    (f2 : v2.ty.Contents (Elt F)) {v7 : View sig .tc .vmem S61x512 .i32} (f7 : v7.ty.Contents (Elt F))
    {v4 : View sig .tc .vmem S1x512 .f32} (f4 : v4.ty.Contents (Elt F)) {xp w s r}
    (h6 : v6.read (Elt F) f6 = xp) (h2 : v2.read (Elt F) f2 = w) (h7 : v7.read (Elt F) f7 = k0_pay92 (F := F) s)
    (h4 : v4.read (Elt F) f4 = r) : stored f6 f2 f7 f4 = tileOf xp w s r := by
  subst h6 h2 h4; unfold tileOf; rw [← h7]; rfl

/-- One piece that is a whole buffer: what the buffer then reads is the piece. -/
theorem read_whole {κ : Kind} {sp : Space} {s : Shape} {e : EltTy} (v : View sig κ sp s e) (f : v.ty.Contents (Elt F))
    {off : Fin s.rank → ℕ} (inb : ∀ a, off a + s.size a ≤ s.size a) (w : s.Idx → Elt F e) :
    v.read (Elt F) (v.writes (Elt F) f [⟨Rect.unit off s.size inb, w⟩]) = w := by
  have key : ∀ y : s.Idx, (Rect.unit off s.size inb).emb y = y := fun y => funext fun a => Fin.ext (by
    have := inb a
    rw [Rect.emb_apply]
    show off a + 1 * (y a).val = (y a).val
    omega)
  funext y
  have mem : y ∈ (Rect.unit off s.size inb).set := by
    have h := LoadRect.idx_mem (Rect.unit off s.size inb).toLoadRect y
    exact (key y) ▸ h
  rw [View.read_writes_apply_eq_canon v f y _ ⟨_, List.mem_singleton.2 rfl, mem⟩]
  have := View.canon_cons_emb (Val := Elt F) (Rect.unit off s.size inb) w [] y
  rwa [key y] at this

/-- The pieces of the permuted activations cover the buffer. -/
theorem permPieces_cover (x : Vec F S96x7808 .bf16) (y : S96x7808.Idx) : ∃ pc ∈ permPieces x, y ∈ pc.1.set :=
  View.cover_of_tiledL (permPieces x) S96x128.size (by sl_kernel_rfl) y

/-- So what the buffer reads afterwards is the permuted activations. -/
theorem read_perm {κ : Kind} {sp : Space} (v : View sig κ sp S96x7808 .bf16) (f : v.ty.Contents (Elt F)) (x : Vec F S96x7808 .bf16) :
    v.read (Elt F) (v.writes (Elt F) f (permPieces x)) = permX x := by
  funext y
  exact View.read_writes_apply_eq_canon v f y _ (permPieces_cover x y)

theorem permuted_eq {v1 : View sig .tc .vmem S96x7808 .bf16} (f1 : v1.ty.Contents (Elt F)) {x} (h : v1.read (Elt F) f1 = x) :
    permuted f1 = permPieces x := by
  subst h; rfl

/-- Of pieces that are the groups of columns in order, the last first, an element of group `g` is read from piece `g`. -/
theorem canon_groups (w : ℕ → (S96x128.Idx → Elt F .bf16)) (n g : ℕ) (hg : g < n) (hn : n ≤ 61) (y : S96x128.Idx) :
    View.canon (Val := Elt F) (((List.range n).map fun k => (⟨rectP k, w k⟩ : View.Piece (Elt F) S96x7808 .bf16)).reverse) ((rectP g).emb y)
      = w g y := by
  induction n with
  | zero => omega
  | succ n ih =>
    rw [List.range_succ, List.map_append, List.reverse_append]
    by_cases h : g = n
    · subst h
      exact View.canon_cons_emb (Val := Elt F) (rectP g) (w g) _ y
    · refine (View.canon_cons_of_not_mem (Val := Elt F) ⟨rectP n, w n⟩ _ ?_).trans (ih (by omega) (by omega))
      intro hm
      obtain ⟨j, hj, he⟩ := (LoadRect.mem_set _).1 hm 1
      have hy : (y 1).val < 128 := (y 1).isLt
      have hj' : j < 128 := hj
      have e1 : (((rectP g).emb y) 1).val = 128 * (g % 61) + 1 * (y 1).val := Rect.emb_apply _ _ _
      have e2 : (((rectP g).emb y) 1).val = 128 * (n % 61) + 1 * j := he
      rw [Nat.mod_eq_of_lt (by omega)] at e1 e2
      omega

theorem permX_emb (x : Vec F S96x7808 .bf16) (g : ℕ) (hg : g < 61) (y : S96x128.Idx) :
    permX x ((rectP g).emb y) = k0_pay3 k0_pay2 (View.ld (Val := Elt F) (e' := .bf16) x (rectP g)) y :=
  canon_groups (fun g => k0_pay3 k0_pay2 (View.ld (Val := Elt F) (e' := .bf16) x (rectP g))) 61 g hg le_rfl y

end Cert.KernelIdeal.Gen
-- ==== Proof.Codes.lean ====
/- The six-bit codes in three packed bytes, and the kernel's reading of them as bytes of fp8. -/
module

public import Mathlib.Data.BitVec
public import Mathlib.Tactic.IntervalCases

@[expose] public section

set_option maxRecDepth 16384

namespace Cert.Codes

/-- Three packed bytes as one word. -/
def packed (b0 b1 b2 : BitVec 8) : BitVec 32 := b0.setWidth 32 ||| b1.setWidth 32 <<< 8 ||| b2.setWidth 32 <<< 16

/-- Code `f` of the four in it. -/
def code (t : BitVec 32) (f : ℕ) : BitVec 32 := t >>> (6 * f) &&& 63#32

/-- A six-bit code as a byte of fp8: the sign in bit 7, the exponent and mantissa in bits 1 to 5. -/
def enc (c : BitVec 32) : BitVec 8 := ((c &&& 31#32) <<< 1 ||| (c &&& 32#32) <<< 2).setWidth 8

/-- The four fields of a packed row, as words of four bytes. -/
def word0 (a : BitVec 32) : BitVec 32 := (a <<< 1 &&& 1044266558#32) ||| (a <<< 2 &&& 2155905152#32)
def word1 (a b : BitVec 32) : BitVec 32 :=
  ((b <<< 3 &&& 2021161080#32) + (b <<< 3 &&& 1077952576#32)) ||| (a >>> 5 &&& 101058054#32)
def word2 (b c : BitVec 32) : BitVec 32 :=
  ((c <<< 5 &&& 1616928864#32) + (c <<< 5 &&& 1077952576#32)) ||| (b >>> 3 &&& 505290270#32)
def word3 (c : BitVec 32) : BitVec 32 := (c >>> 1 &&& 1044266558#32) ||| (c &&& 2155905152#32)

/-- Adding bit 6 of each byte to a field that ends in it moves it to bit 7: nothing is carried past a byte. -/
theorem add_bit6 (x p q r : BitVec 32) (hp : p = q ||| r) (hqr : q &&& r = 0#32) (hq2 : q &&& r <<< 1 = 0#32) :
    (x &&& p) + (x &&& r) = (x &&& q) ||| (x &&& r) <<< 1 := by
  have h1 : x &&& p = (x &&& q) + (x &&& r) := by
    rw [hp, BitVec.and_or_distrib_left, BitVec.add_eq_or_of_and_eq_zero]
    rw [show (x &&& q) &&& (x &&& r) = x &&& (q &&& r) by ext i; simp; grind, hqr, BitVec.and_zero]
  rw [h1, BitVec.add_assoc, show (x &&& r) + (x &&& r) = (x &&& r) <<< 1 by
    rw [BitVec.shiftLeft_eq_mul_twoPow]; apply BitVec.eq_of_toNat_eq; simp; omega]
  rw [BitVec.add_eq_or_of_and_eq_zero]
  rw [BitVec.shiftLeft_and_distrib, show (x &&& q) &&& (x <<< 1 &&& r <<< 1) = x &&& x <<< 1 &&& (q &&& r <<< 1) by ext i; simp; grind, hq2, BitVec.and_zero]

theorem word1_eq (a b : BitVec 32) : word1 a b = ((b <<< 3 &&& 0x38383838#32) ||| (b <<< 3 &&& 1077952576#32) <<< 1) ||| (a >>> 5 &&& 101058054#32) := by
  unfold word1
  rw [add_bit6 _ _ 0x38383838#32 _ (by decide) (by decide) (by decide)]
theorem word2_eq (b c : BitVec 32) : word2 b c = ((c <<< 5 &&& 0x20202020#32) ||| (c <<< 5 &&& 1077952576#32) <<< 1) ||| (b >>> 3 &&& 505290270#32) := by
  unfold word2
  rw [add_bit6 _ _ 0x20202020#32 _ (by decide) (by decide) (by decide)]

/-- Byte `k` of each field is the fp8 byte of the code in byte `k` of the planes. -/
theorem word0_byte (a b c : BitVec 32) (k : ℕ) (hk : k < 4) : (word0 a).extractLsb' (8 * k) 8
    = enc (code (packed (a.extractLsb' (8 * k) 8) (b.extractLsb' (8 * k) 8) (c.extractLsb' (8 * k) 8)) 0) := by
  ext j hj
  unfold word0 enc code packed
  interval_cases k <;> interval_cases j <;> simp
theorem word1_byte (a b c : BitVec 32) (k : ℕ) (hk : k < 4) : (word1 a b).extractLsb' (8 * k) 8
    = enc (code (packed (a.extractLsb' (8 * k) 8) (b.extractLsb' (8 * k) 8) (c.extractLsb' (8 * k) 8)) 1) := by
  rw [word1_eq]
  ext j hj
  unfold enc code packed
  interval_cases k <;> interval_cases j <;> simp
theorem word2_byte (a b c : BitVec 32) (k : ℕ) (hk : k < 4) : (word2 b c).extractLsb' (8 * k) 8
    = enc (code (packed (a.extractLsb' (8 * k) 8) (b.extractLsb' (8 * k) 8) (c.extractLsb' (8 * k) 8)) 2) := by
  rw [word2_eq]
  ext j hj
  unfold enc code packed
  interval_cases k <;> interval_cases j <;> simp
theorem word3_byte (a b c : BitVec 32) (k : ℕ) (hk : k < 4) : (word3 c).extractLsb' (8 * k) 8
    = enc (code (packed (a.extractLsb' (8 * k) 8) (b.extractLsb' (8 * k) 8) (c.extractLsb' (8 * k) 8)) 3) := by
  ext j hj
  unfold word3 enc code packed
  interval_cases k <;> interval_cases j <;> simp

end Cert.Codes
-- ==== Proof.Weights.lean ====
/- The weights of the two programs are one: a six-bit code at a scale, spelled as bf16 by adding exponents, is the code as fp8
   times the scale as bf16. -/
module

public import proofs.«01_k».proof.Proof.Codes
public import Idealize.ShloMosaic.PureOps.Ideal.Laws

@[expose] public section

set_option maxRecDepth 16384

noncomputable section

namespace Cert.Codes

open Idealize.ShloMosaic

/-- The exponent field of a float32 word. -/
def expo (s : BitVec 32) : BitVec 32 := s >>> 23 &&& 255#32

/-- The magnitude bits of a code at scale one, as bf16. -/
def magBits (c : BitVec 32) : BitVec 32 :=
  let e := c >>> 2 &&& 7#32
  let m := c &&& 3#32
  if e = 0#32 then (if m = 0#32 then 0#32 else if m = 1#32 then 123#32 <<< 7 else if m = 2#32 then 124#32 <<< 7 else (124#32 <<< 7 ||| 1#32 <<< 6))
    else (e + 124#32) <<< 7 ||| m <<< 5

/-- The bf16 bits of a code at exponent `E - 127`. -/
def refBits (c : BitVec 32) (E : BitVec 32) : BitVec 16 :=
  (((c >>> 5 &&& 1#32) <<< 15) ||| (if magBits c = 0#32 then 0#32 else magBits c + (E - 127#32) <<< 7)).setWidth 16

/-- The exponent and fraction of a code's magnitude at exponent `E - 127`, in bf16. -/
def refEx (c : ℕ) (E : ℕ) : ℕ := if c / 4 % 8 = 0 then (if c % 4 = 1 then E - 4 else E - 3) else c / 4 % 8 + E - 3
def refFr (c : ℕ) : ℕ := if c / 4 % 8 = 0 then (if c % 4 = 3 then 64 else 0) else c % 4 * 32

theorem refBits_fields : ∀ (c : Fin 64) (E : Fin 256), 5 ≤ E.val → E.val ≤ 250 → c.val % 32 ≠ 0 →
    ((refBits (BitVec.ofNat 32 c.val) (BitVec.ofNat 32 E.val)).extractLsb' 15 1 = BitVec.ofNat 1 (c.val / 32)
    ∧ ((refBits (BitVec.ofNat 32 c.val) (BitVec.ofNat 32 E.val)).extractLsb' 7 8).toNat = refEx c.val E.val
    ∧ ((refBits (BitVec.ofNat 32 c.val) (BitVec.ofNat 32 E.val)).extractLsb' 0 7).toNat = refFr c.val)
    ∧ refEx c.val E.val ≠ 0 ∧ refEx c.val E.val ≠ 255 := by
  decide +kernel

/-- A code of magnitude zero: a zero of either sign. -/
theorem refBits_zero : ∀ (c : Fin 64) (E : Fin 256), c.val % 32 = 0 →
    ((refBits (BitVec.ofNat 32 c.val) (BitVec.ofNat 32 E.val)).extractLsb' 7 8).toNat = 0
    ∧ ((refBits (BitVec.ofNat 32 c.val) (BitVec.ofNat 32 E.val)).extractLsb' 0 7).toNat = 0 := by
  decide +kernel

theorem enc_fields : ∀ c : Fin 64, (enc (BitVec.ofNat 32 c.val)).extractLsb' 7 1 = BitVec.ofNat 1 (c.val / 32)
    ∧ ((enc (BitVec.ofNat 32 c.val)).extractLsb' 3 4).toNat = c.val / 4 % 8
    ∧ ((enc (BitVec.ofNat 32 c.val)).extractLsb' 0 3).toNat = 2 * (c.val % 4) := by
  decide +kernel

/-- The scale of a group as bf16 bits. -/
def scaleBits (E : BitVec 32) : BitVec 16 := ((E + 4#32) <<< 7).setWidth 16

theorem scaleBits_fields : ∀ E : Fin 256, 5 ≤ E.val → E.val ≤ 250 →
    (scaleBits (BitVec.ofNat 32 E.val)).extractLsb' 15 1 = 0#1
    ∧ ((scaleBits (BitVec.ofNat 32 E.val)).extractLsb' 7 8).toNat = E.val + 4
    ∧ ((scaleBits (BitVec.ofNat 32 E.val)).extractLsb' 0 7).toNat = 0 := by
  decide +kernel

/-- The word the kernel makes of a group's scale: the scale's bf16 bits twice. -/
def scaleWord (s : BitVec 32) : BitVec 32 := ((s &&& 2139095040#32) + 33554432#32) ||| ((s &&& 2139095040#32) + 33554432#32) >>> 16

theorem scaleWord_halves : ∀ E : Fin 256, 5 ≤ E.val → E.val ≤ 250 → ∀ h : Fin 2,
    (((BitVec.ofNat 32 E.val) <<< 23 + 33554432#32) ||| ((BitVec.ofNat 32 E.val) <<< 23 + 33554432#32) >>> 16).extractLsb' (16 * h.val) 16
      = scaleBits (BitVec.ofNat 32 E.val) := by
  decide +kernel

theorem and_expo (s : BitVec 32) : s &&& 2139095040#32 = expo s <<< 23 := by
  ext j hj
  unfold expo
  interval_cases j <;> simp

theorem ofNat_toNat_fin {n : ℕ} (c : BitVec 32) (h : c.toNat < n) : c = BitVec.ofNat 32 (⟨c.toNat, h⟩ : Fin n).val :=
  BitVec.eq_of_toNat_eq (by simp)

theorem scaleWord_half (s : BitVec 32) (h1 : 5 ≤ (expo s).toNat) (h2 : (expo s).toNat ≤ 250) (h : ℕ) (hh : h < 2) :
    (scaleWord s).extractLsb' (16 * h) 16 = scaleBits (expo s) := by
  unfold scaleWord
  rw [and_expo, ofNat_toNat_fin (n := 256) (expo s) (by omega)]
  exact scaleWord_halves ⟨(expo s).toNat, by omega⟩ h1 h2 ⟨h, hh⟩

/-- The sign of a code. -/
def sgn (n : ℕ) : ℝ := if n / 32 = 1 then -1 else 1

theorem sgn_of_bit (n : ℕ) (h : n < 64) : (if (BitVec.ofNat 1 (n / 32) == 1#1) = true then (-1 : ℝ) else 1) = sgn n := by
  have : n / 32 = 0 ∨ n / 32 = 1 := by omega
  rcases this with e | e <;> simp [sgn, e]

/-- A code as fp8. -/
theorem enc_value (c : BitVec 32) (hc : c.toNat < 64) : Ideal.ofBits .fp8e4m3 (enc c)
    = if c.toNat / 4 % 8 = 0 then ((sgn c.toNat * (2 * (c.toNat % 4) : ℕ) * (2 : ℝ) ^ (-9 : ℤ) : ℝ) : EReal)
      else ((sgn c.toNat * (8 + 2 * (c.toNat % 4) : ℕ) * (2 : ℝ) ^ (((c.toNat / 4 % 8 : ℕ) : ℤ) - 10) : ℝ) : EReal) := by
  obtain ⟨h1, h2, h3⟩ := enc_fields ⟨c.toNat, hc⟩
  rw [← ofNat_toNat_fin c hc] at h1 h2 h3
  show Ideal.e4m3fn (enc c) = _
  unfold Ideal.e4m3fn
  dsimp only at h1 h2 h3 ⊢
  rw [h1, h2, h3, sgn_of_bit _ hc, if_neg (by omega)]

/-- A scale as bf16. -/
theorem scale_value (E : BitVec 32) (h1 : 5 ≤ E.toNat) (h2 : E.toNat ≤ 250) :
    Ideal.ofBits .bf16 (scaleBits E) = ((128 * (2 : ℝ) ^ ((E.toNat : ℤ) - 130) : ℝ) : EReal) := by
  obtain ⟨f1, f2, f3⟩ := scaleBits_fields ⟨E.toNat, by omega⟩ h1 h2
  rw [← ofNat_toNat_fin E (by omega)] at f1 f2 f3
  show Ideal.ieee 8 7 (scaleBits E) = _
  unfold Ideal.ieee
  dsimp only at f1 f2 f3 ⊢
  rw [f1, f2, f3, if_neg (by omega), if_neg (by omega)]
  have e : (((E.toNat + 4 : ℕ) : ℤ) - ((2 : ℤ) ^ (8 - 1) - 1) - ((7 : ℕ) : ℤ)) = (E.toNat : ℤ) - 130 := by push_cast; norm_num; ring
  rw [e]
  norm_num

/-- A code at an exponent, as the reference spells it. -/
theorem ref_value (c E : BitVec 32) (hc : c.toNat < 64) (h1 : 5 ≤ E.toNat) (h2 : E.toNat ≤ 250) :
    Ideal.ofBits .bf16 (refBits c E) = if c.toNat % 32 = 0 then 0
      else ((sgn c.toNat * (128 + refFr c.toNat : ℕ) * (2 : ℝ) ^ ((refEx c.toNat E.toNat : ℤ) - 134) : ℝ) : EReal) := by
  show Ideal.ieee 8 7 (refBits c E) = _
  unfold Ideal.ieee
  by_cases hz : c.toNat % 32 = 0
  · obtain ⟨f2, f3⟩ := refBits_zero ⟨c.toNat, hc⟩ ⟨E.toNat, by omega⟩ hz
    rw [← ofNat_toNat_fin c hc, ← ofNat_toNat_fin E (by omega)] at f2 f3
    dsimp only at f2 f3 ⊢
    rw [f2, f3, if_pos hz, if_neg (by decide), if_pos rfl]
    norm_num
  · obtain ⟨⟨f1, f2, f3⟩, f4, f5⟩ := refBits_fields ⟨c.toNat, hc⟩ ⟨E.toNat, by omega⟩ h1 h2 hz
    rw [← ofNat_toNat_fin c hc, ← ofNat_toNat_fin E (by omega)] at f1 f2 f3
    dsimp only at f1 f2 f3 f4 f5 ⊢
    rw [f1, f2, f3, sgn_of_bit _ hc, if_neg hz, if_neg (by norm_num; exact f5), if_neg f4]
    have e : ((refEx c.toNat E.toNat : ℤ) - ((2 : ℤ) ^ (8 - 1) - 1) - ((7 : ℕ) : ℤ)) = (refEx c.toNat E.toNat : ℤ) - 134 := by norm_num; ring
    rw [e]
    norm_num

/-- The two spellings of a weight are one value. -/
theorem weight_value (c E : BitVec 32) (hc : c.toNat < 64) (h1 : 5 ≤ E.toNat) (h2 : E.toNat ≤ 250) :
    Ideal.ofBits .fp8e4m3 (enc c) * Ideal.ofBits .bf16 (scaleBits E) = Ideal.ofBits .bf16 (refBits c E) := by
  rw [enc_value c hc, scale_value E h1 h2, ref_value c E hc h1 h2]
  generalize c.toNat = n at *
  generalize E.toNat = k at *
  have two : (2 : ℝ) ≠ 0 := two_ne_zero
  by_cases he : n / 4 % 8 = 0
  · rw [if_pos he, ← EReal.coe_mul]
    have hm : n % 4 = 0 ∨ n % 4 = 1 ∨ n % 4 = 2 ∨ n % 4 = 3 := by omega
    rcases hm with hm | hm | hm | hm
    · rw [if_pos (by omega), hm]; norm_num
    all_goals
      rw [if_neg (by omega)]
      congr 1
      unfold refEx refFr
      rw [if_pos he, if_pos he, hm]
      norm_num
      rw [Nat.cast_sub (by omega)]
    · rw [show ((k : ℤ) - 130) = (k : ℤ) - ((4 : ℕ) : ℤ) - 134 + 8 by push_cast; ring, zpow_add₀ two]; norm_num; ring
    · rw [show ((k : ℤ) - 130) = (k : ℤ) - ((3 : ℕ) : ℤ) - 134 + 7 by push_cast; ring, zpow_add₀ two]; norm_num; ring
    · rw [show ((k : ℤ) - 130) = (k : ℤ) - ((3 : ℕ) : ℤ) - 134 + 7 by push_cast; ring, zpow_add₀ two]; norm_num; ring
  · rw [if_neg he, if_neg (by omega), ← EReal.coe_mul]
    congr 1
    unfold refEx refFr
    rw [if_neg he, if_neg he, Nat.cast_sub (by omega), Nat.cast_add (n / 4 % 8) k]
    rw [show (((n / 4 % 8 : ℕ) : ℤ) + (k : ℤ) - ((3 : ℕ) : ℤ) - 134) = (((n / 4 % 8 : ℕ) : ℤ) - 10) + ((k : ℤ) - 130) + 3 by push_cast; ring,
      zpow_add₀ two, zpow_add₀ two]
    push_cast
    norm_num
    ring

end Cert.Codes
-- ==== Proof.Tile.lean ====
/- What a point stores, read at an element in extended reals: a sum over the permuted activations times the weights that the
   codes and the scales spell, times the column's scale. -/
module

public import proofs.«01_k».proof.Proof.Contents
public import proofs.«01_k».proof.Proof.Weights
public import Idealize.ShloMosaic.Lib.Pointwise
public import Idealize.ShloMosaic.Lib.BitcastPair

@[expose] public section

set_option maxRecDepth 16384

noncomputable section

namespace Cert.KernelIdeal.Gen

open Idealize.ShloMosaic Idealize.ShloMosaic.TcCoe Idealize.ShloMosaic.Tactic
open Cert.Codes

/-- Words read as bytes: row `r` is byte `r % 4` of word `r / 4`. -/
theorem bitcast_32_8 {R r n : ℕ} (x : (⟨2, ![r, n]⟩ : Shape).Idx → BitVec 32)
    (h : (⟨2, ![r, n]⟩ : Shape).Bitcasts 32 ⟨2, ![R, n]⟩ 8) (a : Fin R) (l : Fin n) (p : Fin r) (hp : p.val = a.val / 4) :
    bitcast ⟨2, ![R, n]⟩ 8 x h (ix2 a l) = (x (ix2 p l)).extractLsb' (8 * (a.val % 4)) 8 := by
  apply BitVec.eq_of_getLsbD_eq
  intro i hi
  have hrow : (⟨2, ![R, n]⟩ : Shape).row (ix2 a l) = a.val := rfl
  rw [bitcast_getLsbD x h _ i hi (by decide), BitVec.getLsbD_extractLsb']
  have ep : ((⟨2, ![R, n]⟩ : Shape).row (ix2 a l) * 8 + i) / 32 = p.val := by rw [hrow]; omega
  have eq : ((⟨2, ![R, n]⟩ : Shape).row (ix2 a l) * 8 + i) % 32 = 8 * (a.val % 4) + i := by rw [hrow]; omega
  rw [eq, h.srcIdx_congr _ ep _ (fun b hb => by
    have : b = 0 := Fin.ext (by have : b.val + 2 = 2 := hb; show b.val = 0; omega)
    subst this; exact p.isLt)]
  rw [show decide (i < 8) = true from decide_eq_true hi, Bool.true_and]
  congr 2
  funext c
  match c with
  | ⟨0, _⟩ => exact Fin.ext (Shape.Bitcasts.srcIdx_row _ _ _ _ _ rfl)
  | ⟨1, _⟩ => exact Fin.ext (Shape.Bitcasts.srcIdx_other _ _ _ _ _ (by simp))

/-- Bytes read as words: byte `k` of word `a` is row `4a + k`. -/
theorem bitcast_8_32_byte {R r n : ℕ} (x : (⟨2, ![R, n]⟩ : Shape).Idx → BitVec 8)
    (h : (⟨2, ![R, n]⟩ : Shape).Bitcasts 8 ⟨2, ![r, n]⟩ 32) (a : Fin r) (l : Fin n) (k : ℕ) (hk : k < 4) (p : Fin R)
    (hp : p.val = 4 * a.val + k) :
    (bitcast ⟨2, ![r, n]⟩ 32 x h (ix2 a l)).extractLsb' (8 * k) 8 = x (ix2 p l) := by
  apply BitVec.eq_of_getLsbD_eq
  intro i hi
  have hrow : (⟨2, ![r, n]⟩ : Shape).row (ix2 a l) = a.val := rfl
  rw [BitVec.getLsbD_extractLsb', show decide (i < 8) = true from decide_eq_true hi, Bool.true_and,
    bitcast_getLsbD x h _ (8 * k + i) (by omega) (by decide)]
  have ep : ((⟨2, ![r, n]⟩ : Shape).row (ix2 a l) * 32 + (8 * k + i)) / 8 = p.val := by rw [hrow]; omega
  have eq : ((⟨2, ![r, n]⟩ : Shape).row (ix2 a l) * 32 + (8 * k + i)) % 8 = i := by rw [hrow]; omega
  rw [eq, h.srcIdx_congr _ ep _ (fun b hb => by
    have : b = 0 := Fin.ext (by have : b.val + 2 = 2 := hb; show b.val = 0; omega)
    subst this; exact p.isLt)]
  congr 2
  funext c
  match c with
  | ⟨0, _⟩ => exact Fin.ext (Shape.Bitcasts.srcIdx_row _ _ _ _ _ rfl)
  | ⟨1, _⟩ => exact Fin.ext (Shape.Bitcasts.srcIdx_other _ _ _ _ _ (by simp))

/-- Words read as halves: row `r` is half `r % 2` of word `r / 2`. -/
theorem bitcast_32_16_ix2 {R r n : ℕ} (x : (⟨2, ![r, n]⟩ : Shape).Idx → BitVec 32)
    (h : (⟨2, ![r, n]⟩ : Shape).Bitcasts 32 ⟨2, ![R, n]⟩ 16) (a : Fin R) (l : Fin n) (p : Fin r) (hp : p.val = a.val / 2) :
    bitcast ⟨2, ![R, n]⟩ 16 x h (ix2 a l) = (x (ix2 p l)).extractLsb' (16 * (a.val % 2)) 16 := by
  rw [bitcast_32_16]
  show (x (h.srcIdx (ix2 a l) (a.val / 2) _)).extractLsb' (16 * (a.val % 2)) 16 = _
  congr 2
  funext c
  match c with
  | ⟨0, _⟩ => exact Fin.ext ((Shape.Bitcasts.srcIdx_row _ _ _ _ _ rfl).trans hp.symm)
  | ⟨1, _⟩ => exact Fin.ext (Shape.Bitcasts.srcIdx_other _ _ _ _ _ (by simp))

/-- A weight: code `f` of three packed bytes as fp8, times half `h` of a word as a scale. -/
def weight (b : Fin 3 → BitVec 8) (f : ℕ) (s : BitVec 32) (h : ℕ) : EReal :=
  Ideal.ofBits .fp8e4m3 (enc (code (packed (b 0) (b 1) (b 2)) f)) * Ideal.ofBits .bf16 (s.extractLsb' (16 * h) 16)

theorem scaleRow_apply (v : Vec Ideal S1x512 .i32) (r : Fin 32) (l : Fin 512) :
    scaleRow (F := Ideal) v (ix2 r l) = Ideal.ofBits .bf16 ((v (ix2 0 l)).extractLsb' (16 * (r.val % 2)) 16) := by
  unfold scaleRow
  show Ideal.ofBits .bf16 (bitcast S32x512 16 _ bitcasts_S16x512_w32_S32x512_w16 (ix2 r l)) = _
  rw [bitcast_32_16_ix2 _ _ r l ⟨r.val / 2, by omega⟩ rfl]
  pointwise

theorem tile_apply (w : IVec S8x512 32) (s : FVec Ideal S32x512 .bf16) (r : Fin 32) (l : Fin 512) :
    tile (F := Ideal) w s (ix2 r l)
      = Ideal.ofBits .fp8e4m3 ((w (ix2 ⟨r.val / 4, by omega⟩ l)).extractLsb' (8 * (r.val % 4)) 8) * s (ix2 r l) := by
  unfold tile
  show Ideal.ofBits .fp8e4m3 (bitcast S32x512 8 w bitcasts_S8x512_w32_S32x512_w8 (ix2 r l)) * s (ix2 r l) = _
  rw [bitcast_32_8 _ _ r l ⟨r.val / 4, by omega⟩ rfl]

theorem words_byte (v : Vec Ideal S1x32x512 .i8) (r : Fin 32) (l : Fin 512) :
    (words v (ix2 ⟨r.val / 4, by omega⟩ l)).extractLsb' (8 * (r.val % 4)) 8 = v (ix3 0 r l) := by
  unfold words
  rw [bitcast_8_32_byte _ _ _ l (r.val % 4) (by omega) r (by show r.val = 4 * (r.val / 4) + r.val % 4; omega)]
  pointwise

theorem shl_apply (a : IVec S8x512 32) (k : BitVec 32) (hk : k.toNat < 32) (i : S8x512.Idx) :
    shli a (broadcast S8x512 k) i = a i <<< k.toNat := if_pos hk
theorem shr_apply (a : IVec S8x512 32) (k : BitVec 32) (hk : k.toNat < 32) (i : S8x512.Idx) :
    shrui a (broadcast S8x512 k) i = a i >>> k.toNat := if_pos hk

theorem field0_apply (a : IVec S8x512 32) (i : S8x512.Idx) : field0 a i = word0 (a i) := by
  show (shli a (broadcast S8x512 1#32) i &&& _) ||| (shli a (broadcast S8x512 2#32) i &&& _) = _
  rw [shl_apply _ _ (by decide), shl_apply _ _ (by decide)]; rfl
theorem field1_apply (a b : IVec S8x512 32) (i : S8x512.Idx) : field1 a b i = word1 (a i) (b i) := by
  show ((shli b (broadcast S8x512 3#32) i &&& _) + (shli b (broadcast S8x512 3#32) i &&& _)) ||| (shrui a (broadcast S8x512 5#32) i &&& _) = _
  rw [shl_apply _ _ (by decide), shr_apply _ _ (by decide)]; rfl
theorem field2_apply (b c : IVec S8x512 32) (i : S8x512.Idx) : field2 b c i = word2 (b i) (c i) := by
  show ((shli c (broadcast S8x512 5#32) i &&& _) + (shli c (broadcast S8x512 5#32) i &&& _)) ||| (shrui b (broadcast S8x512 3#32) i &&& _) = _
  rw [shl_apply _ _ (by decide), shr_apply _ _ (by decide)]; rfl
theorem field3_apply (c : IVec S8x512 32) (i : S8x512.Idx) : field3 c i = word3 (c i) := by
  show (shrui c (broadcast S8x512 1#32) i &&& _) ||| (c i &&& _) = _
  rw [shr_apply _ _ (by decide)]; rfl

/-- The four tiles of a group. -/
def tiles (W : Fin 3 → Vec Ideal S1x32x512 .i8) (S : Vec Ideal S1x512 .i32) (f : Fin 4) : FVec Ideal S32x512 .bf16 :=
  ![tile0 W S, tile1 W S, tile2 W S, tile3 W S] f

theorem tiles_apply (W : Fin 3 → Vec Ideal S1x32x512 .i8) (S : Vec Ideal S1x512 .i32) (f : Fin 4) (r : Fin 32) (l : Fin 512) :
    tiles W S f (ix2 r l) = weight (fun p => W p (ix3 0 r l)) f.val (S (ix2 0 l)) (r.val % 2) := by
  have hk : r.val % 4 < 4 := by omega
  unfold weight
  dsimp only
  rw [← words_byte (W 0), ← words_byte (W 1), ← words_byte (W 2)]
  match f with
  | ⟨0, _⟩ =>
    show tile0 W S (ix2 r l) = _
    unfold tile0; rw [tile_apply, scaleRow_apply, field0_apply, word0_byte _ (words (W 1) _) (words (W 2) _) _ hk]
  | ⟨1, _⟩ =>
    show tile1 W S (ix2 r l) = _
    unfold tile1; rw [tile_apply, scaleRow_apply, field1_apply, word1_byte _ _ (words (W 2) _) _ hk]
  | ⟨2, _⟩ =>
    show tile2 W S (ix2 r l) = _
    unfold tile2; rw [tile_apply, scaleRow_apply, field2_apply, word2_byte (words (W 0) _) _ _ _ hk]
  | ⟨3, _⟩ =>
    show tile3 W S (ix2 r l) = _
    unfold tile3; rw [tile_apply, scaleRow_apply, field3_apply, word3_byte (words (W 0) _) (words (W 1) _) _ _ hk]

theorem pairTile_apply (W : ℕ → Fin 3 → Vec Ideal S1x32x512 .i8) (S : ℕ → Vec Ideal S1x512 .i32) (g : ℕ) (j : Fin 256) (l : Fin 512) :
    pairTile (W g) (W (g + 1)) (S g) (S (g + 1)) (ix2 j l)
      = weight (fun p => W (g + j.val / 128) p (ix3 0 ⟨j.val % 32, by omega⟩ l)) (j.val / 32 % 4) (S (g + j.val / 128) (ix2 0 l)) (j.val % 2) := by
  have h := concatenate_ofFn_apply (t := S256x512) (s₁ := S32x512) 0
    (fun n : Fin 8 => tiles (W (g + n.val / 4)) (S (g + n.val / 4)) ⟨n.val % 4, by omega⟩)
    concatenates_S32x512_S32x512_S32x512_S32x512_S32x512_S32x512_S32x512_S32x512_S256x512_d0 rfl 32 rfl (ix2 j l)
    ⟨j.val / 32, by omega⟩ rfl (ix2 ⟨j.val % 32, by omega⟩ l) rfl (fun b hb => by
      match b with
      | ⟨0, _⟩ => exact absurd rfl hb
      | ⟨1, _⟩ => rfl)
  refine Eq.trans (show _ = _ from rfl) (h.trans ?_)
  rw [tiles_apply]
  show weight _ (j.val / 32 % 4) (S (g + j.val / 32 / 4) (ix2 0 l)) (j.val % 32 % 2) = _
  rw [show j.val / 32 / 4 = j.val / 128 by omega, show j.val % 32 % 2 = j.val % 2 by omega]

theorem lastTile_apply (W : Fin 3 → Vec Ideal S1x32x512 .i8) (S : Vec Ideal S1x512 .i32) (j : Fin 128) (l : Fin 512) :
    lastTile W S (ix2 j l) = weight (fun p => W p (ix3 0 ⟨j.val % 32, by omega⟩ l)) (j.val / 32) (S (ix2 0 l)) (j.val % 2) := by
  have h := concatenate_ofFn_apply (t := S128x512) (s₁ := S32x512) 0
    (fun n : Fin 4 => tiles W S n)
    concatenates_S32x512_S32x512_S32x512_S32x512_S128x512_d0 rfl 32 rfl (ix2 j l)
    ⟨j.val / 32, by omega⟩ rfl (ix2 ⟨j.val % 32, by omega⟩ l) rfl (fun b hb => by
      match b with
      | ⟨0, _⟩ => exact absurd rfl hb
      | ⟨1, _⟩ => rfl)
  refine Eq.trans (show _ = _ from rfl) (h.trans ?_)
  rw [tiles_apply]
  show weight _ (j.val / 32) (S (ix2 0 l)) (j.val % 32 % 2) = _
  rw [show j.val % 32 % 2 = j.val % 2 by omega]

/-- The sums after `k` pairs of groups, at an element. -/
theorem pairs_apply (X : ℕ → Vec Ideal S96x256 .bf16) (W : ℕ → Fin 3 → Vec Ideal S1x32x512 .i8) (S : ℕ → Vec Ideal S1x512 .i32)
    (k : ℕ) (b : Fin 96) (l : Fin 512) :
    pairs X W S k (ix2 b l) = ∑ q ∈ Finset.range k, ∑ j : Fin 256, X q (ix2 b j)
      * weight (fun p => W (2 * q + j.val / 128) p (ix3 0 ⟨j.val % 32, by omega⟩ l)) (j.val / 32 % 4)
          (S (2 * q + j.val / 128) (ix2 0 l)) (j.val % 2) := by
  induction k with
  | zero => exact Ideal.ofBits_zero_f32
  | succ k ih =>
    rw [Finset.sum_range_succ, ← ih]
    show pairs X W S k (ix2 b l) + _ = _
    congr 1
    pointwise
    refine Finset.sum_congr rfl fun j _ => ?_
    rw [pairTile_apply]

/-- What a point stores, at an element, over the extended reals. -/
theorem outTile_apply (X : ℕ → Vec Ideal S96x256 .bf16) (XL : Vec Ideal S96x128 .bf16) (W : ℕ → Fin 3 → Vec Ideal S1x32x512 .i8)
    (S : ℕ → Vec Ideal S1x512 .i32) (R : Vec Ideal S1x512 .f32) (b : Fin 96) (l : Fin 512) :
    outTile X XL W S R (ix2 b l) = ((∑ q ∈ Finset.range 30, ∑ j : Fin 256, X q (ix2 b j)
      * weight (fun p => W (2 * q + j.val / 128) p (ix3 0 ⟨j.val % 32, by omega⟩ l)) (j.val / 32 % 4)
          (S (2 * q + j.val / 128) (ix2 0 l)) (j.val % 2))
      + ∑ j : Fin 128, XL (ix2 b j) * weight (fun p => W 60 p (ix3 0 ⟨j.val % 32, by omega⟩ l)) (j.val / 32) (S 60 (ix2 0 l)) (j.val % 2))
      * R (ix2 0 l) := by
  unfold outTile
  pointwise
  rw [pairs_apply]
  congr 2
  refine Finset.sum_congr rfl fun j _ => ?_
  rw [lastTile_apply]

/-- A point's stores at an element, of the permuted activations and the point's blocks. -/
theorem tileOf_apply (xp : Vec Ideal S96x7808 .bf16) (w : Vec Ideal S3x1952x512 .i8) (s : Vec Ideal S61x512 .i32) (r : Vec Ideal S1x512 .f32)
    (b : Fin 96) (l : Fin 512) :
    tileOf xp w s r (ix2 b l) = ((∑ q ∈ Finset.range 30, ∑ j : Fin 256, xp (ix2 b ⟨256 * (q % 30) + j.val, by omega⟩)
      * weight (fun p => w (ix3 p ⟨32 * ((2 * q + j.val / 128) % 61) + j.val % 32, by omega⟩ l)) (j.val / 32 % 4)
          (k0_pay92 (F := Ideal) s (ix2 ⟨(2 * q + j.val / 128) % 61, by omega⟩ l)) (j.val % 2))
      + ∑ j : Fin 128, xp (ix2 b ⟨7680 + j.val, by omega⟩)
        * weight (fun p => w (ix3 p ⟨32 * 60 + j.val % 32, by omega⟩ l)) (j.val / 32) (k0_pay92 (F := Ideal) s (ix2 60 l)) (j.val % 2))
      * r (ix2 0 l) := by
  unfold tileOf
  rw [outTile_apply]
  pointwise

/-- The word of a group's scale. -/
theorem pay92_apply (s : Vec Ideal S61x512 .i32) (i : S61x512.Idx) : k0_pay92 (F := Ideal) s i = scaleWord (s i) := by
  idx_vars i
  pointwise [k0_pay92]
  rfl

/-- A point's stores in a column depend on that column alone of the blocks. -/
theorem tileOf_local (xp : Vec Ideal S96x7808 .bf16) {w w' : Vec Ideal S3x1952x512 .i8} {s s' : Vec Ideal S61x512 .i32}
    {r r' : Vec Ideal S1x512 .f32} (b : Fin 96) (l : Fin 512) (hw : ∀ p k, w (ix3 p k l) = w' (ix3 p k l))
    (hs : ∀ g, s (ix2 g l) = s' (ix2 g l)) (hr : r (ix2 0 l) = r' (ix2 0 l)) :
    tileOf xp w s r (ix2 b l) = tileOf xp w' s' r' (ix2 b l) := by
  rw [tileOf_apply, tileOf_apply]
  simp only [pay92_apply, hw, hs, hr]

/-- The permutation of a group's columns. -/
theorem pay2_apply (b : Fin 96) (l : Fin 128) : k0_pay2 (ix2 b l) = BitVec.ofNat 32 (4 * (l.val % 32) + l.val / 32) := by
  have h : k0_pay2 (ix2 b l) = k0_pay2 (ix2 0 l) := rfl
  have hl : ∀ l : Fin 128, k0_pay2 (ix2 0 l) = BitVec.ofNat 32 (4 * (l.val % 32) + l.val / 32) := by decide +kernel
  rw [h, hl]

theorem pay3_apply (v : Vec Ideal S96x128 .bf16) (b : Fin 96) (l : Fin 128) :
    k0_pay3 k0_pay2 v (ix2 b l) = v (ix2 b ⟨4 * (l.val % 32) + l.val / 32, by omega⟩) := by
  have hl : ∀ l : Fin 128, (Scalar.select (IntOp.cmpi .slt (BitVec.ofNat 32 (4 * (l.val % 32) + l.val / 32)) 0#32)
      (BitVec.ofNat 32 (4 * (l.val % 32) + l.val / 32) + 128#32) (BitVec.ofNat 32 (4 * (l.val % 32) + l.val / 32))).toNat % 128
      = 4 * (l.val % 32) + l.val / 32 := by decide +kernel
  unfold k0_pay3
  pointwise [dynamicGather]
  congr 1
  funext a
  fin_cases a
  · rfl
  · refine Fin.ext ?_
    have h := hl l
    rw [← pay2_apply b l] at h
    exact h

/-- The permuted activations: position `32f + r` of a group holds the activation of code `f` of row `r` of it. -/
theorem permX_apply (x : Vec Ideal S96x7808 .bf16) (b : Fin 96) (g : ℕ) (hg : g < 61) (l : Fin 128) :
    permX x (ix2 b ⟨128 * g + l.val, by omega⟩) = x (ix2 b ⟨128 * g + (4 * (l.val % 32) + l.val / 32), by omega⟩) := by
  have e : ix2 b ⟨128 * g + l.val, by omega⟩ = (rectP g).emb (ix2 b l) := by
    funext a
    refine Fin.ext ?_
    rw [Rect.emb_apply]
    match a with
    | ⟨0, _⟩ => show b.val = 0 + 1 * b.val; omega
    | ⟨1, _⟩ => show 128 * g + l.val = 128 * (g % 61) + 1 * l.val; rw [Nat.mod_eq_of_lt hg]; omega
  rw [e, permX_emb x g hg, pay3_apply]
  pointwise
  refine congrArg x (congrArg (ix2 b) (Fin.ext ?_))
  show 128 * (g % 61) + (4 * (l.val % 32) + l.val / 32) = _
  rw [Nat.mod_eq_of_lt hg]

end Cert.KernelIdeal.Gen
-- ==== Proof.Exact.lean ====
/- The kernel's run in extended reals with what every buffer holds: the permuted activations are kept from the first point on, and
   each point writes back `tileOf` of its blocks. The last block of columns is cut at the array's end; the columns past it hold
   anything, and what a point stores in a column does not depend on the others (`tileOf_local`). -/
module

public import proofs.«01_k».proof.Proof.StepA
public import proofs.«01_k».proof.Proof.StepB
public import proofs.«01_k».proof.Proof.RunFrame
public import proofs.«01_k».proof.Proof.Tile
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Steps

variable {F : FTy → Type} [FloatOps F]

variable (c : Dev nD) (i : grid0.Coords)
  (arg1 : Memref sig .tc .vmem S96x7808 .bf16) (harg1 : arg1.IsWhole) (arg2 : Memref sig .tc .vmem S3x1952x512 .i8) (harg2 : arg2.IsWhole)
  (arg3 : Memref sig .tc .vmem S61x512 .i32) (harg3 : arg3.IsWhole) (arg4 : Memref sig .tc .vmem S1x512 .f32) (harg4 : arg4.IsWhole)
  (arg5 : Memref sig .tc .vmem S96x512 .bf16) (harg5 : arg5.IsWhole) (arg6 : Memref sig .tc .vmem S96x7808 .bf16) (harg6 : arg6.IsWhole)
  (arg7 : Memref sig .tc .vmem S61x512 .i32) (harg7 : arg7.IsWhole)
  (x0 : Vec F S96x7808 .bf16) (x1 : Vec F S3x1952x512 .i8) (x2 : Vec F S61x512 .i32) (x3 : Vec F S1x512 .f32)

/-- A whole load of a whole memref reads its contents. -/
theorem load_whole : arg3.view.readAt (Elt F) (Rect.unit (s := S61x512) ![0, 0] S61x512.size inb_S61x512_S61x512_0_0).toLoadRect (harg3.unread x2) = x2 :=
  (View.readAt_full _ _ _).trans (harg3.read_unread x2)

/-- At the first point the permuted activations end in their buffer. -/
theorem leaves_perm (hc0 : cond0_0 i) (f : arg6.view.ty.Contents (Elt F)) :
    arg6.view.read (Elt F) (arg6.view.writes (Elt F) f
      (kernelRun0_A c i arg1 harg1 arg2 harg2 arg3 harg3 arg4 harg4 arg5 harg5 arg6 harg6 arg7 harg7 hc0 x0 x1 x2 x3).2.1) = permX x0 := by
  rw [perm_A, permuted_eq _ (harg1.read_unread x0), read_perm]

/-- What the first point leaves in the output's buffer. -/
theorem leaves_A (hc0 : cond0_0 i) (f : arg5.view.ty.Contents (Elt F)) :
    arg5.view.read (Elt F) (arg5.view.writes (Elt F) f
      (kernelRun0_A c i arg1 harg1 arg2 harg2 arg3 harg3 arg4 harg4 arg5 harg5 arg6 harg6 arg7 harg7 hc0 x0 x1 x2 x3).1)
      = tileOf (permX x0) x1 x2 x3 := by
  rw [pieces_A, read_whole]
  refine stored_eq _ _ _ _ ?_ (harg2.read_unread _) ?_ (harg4.read_unread _)
  · rw [permuted_eq _ (harg1.read_unread x0), read_perm]
  · rw [scales_A, read_whole, load_whole]

/-- What any other point leaves there, of the permuted activations it finds. -/
theorem leaves_B (hc0 : ¬cond0_0 i) (xs0 : Vec F S96x7808 .bf16) (f : arg5.view.ty.Contents (Elt F)) :
    arg5.view.read (Elt F) (arg5.view.writes (Elt F) f
      (kernelRun0_B c i arg1 harg1 arg2 harg2 arg3 harg3 arg4 harg4 arg5 harg5 arg6 harg6 arg7 harg7 hc0 x0 x1 x2 x3 xs0).1)
      = tileOf xs0 x1 x2 x3 := by
  rw [pieces_B, read_whole]
  refine stored_eq _ _ _ _ (harg6.read_unread _) (harg2.read_unread _) ?_ (harg4.read_unread _)
  rw [scales_B, read_whole, load_whole]

end Steps

local notation "𝕄" => MT nD τ sig Unit (Elt Ideal) ℕ (UR sig nD τ) ℕ

variable (m : (ℓ : Loc nD τ sig) → Buf (Elt Ideal) ℓ) (ρ : Dev nD → PrngReg)

/-- The first point. -/
abbrev t0 : Fin cfg0.N := ⟨0, lt_of_lt_of_eq (by decide) N_0.symm⟩

/-- The permuted activations, from the first point's block. -/
def xperm (c : Dev nD) : Vec Ideal S96x7808 .bf16 := permX (F := Ideal) (iblk m c 0 t0)

/-- A point's blocks, filled out past the array's end. -/
def wblk (c : Dev nD) (t : Fin cfg0.N) (d : Vec Ideal S3x1952x512 .i8) : Vec Ideal S3x1952x512 .i8 := win0_1.fill (grid0.coords t) d (iblk m c 1 t)
def sblk (c : Dev nD) (t : Fin cfg0.N) (d : Vec Ideal S61x512 .i32) : Vec Ideal S61x512 .i32 := win0_2.fill (grid0.coords t) d (iblk m c 2 t)
def rblk (c : Dev nD) (t : Fin cfg0.N) (d : Vec Ideal S1x512 .f32) : Vec Ideal S1x512 .f32 := win0_3.fill (grid0.coords t) d (iblk m c 3 t)

/-- What fills them out in the proof data: anything. -/
abbrev d1 (t : Fin cfg0.N) : Vec Ideal S3x1952x512 .i8 := Pipeline.Dat.unnamed (cfg := cfg0) 1 t
abbrev d2 (t : Fin cfg0.N) : Vec Ideal S61x512 .i32 := Pipeline.Dat.unnamed (cfg := cfg0) 2 t
abbrev d3 (t : Fin cfg0.N) : Vec Ideal S1x512 .f32 := Pipeline.Dat.unnamed (cfg := cfg0) 3 t

/-- What a point leaves in the output's buffer. -/
def yblk (c : Dev nD) (t : Fin cfg0.N) : Vec Ideal S96x512 .bf16 :=
  tileOf (xperm m c) (wblk m c t (d1 t)) (sblk m c t (d2 t)) (rblk m c t (d3 t))

/-- The region's invariant: before the first point the scratch buffers hold anything, afterwards the permuted activations are kept. -/
def PhiS (c : Dev nD) : ℕ → sProp 𝕄
  | 0 => Pipeline.ΦA spec0 c
  | _ + 1 => iprop(iprop(owns (c : Thread nD τ) scM0_0 fullShare (xperm m c) ∗ (∃ d, owns (c : Thread nD τ) scM0_1 fullShare d)) ∗ (∃ r, prngReg c r))

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wblk m c t (d1 t)
    | ⟨2, _⟩ => sblk m c t (d2 t)
    | ⟨3, _⟩ => rblk m c t (d3 t)
    | ⟨4, _⟩ => yblk m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wblk m c t (d1 t) := by dsimp only [dats]
theorem after0_2 (c : Dev nD) (t : Fin cfg0.N) : (dats m 0 c).after 2 t = sblk m c t (d2 t) := by dsimp only [dats]
theorem after0_3 (c : Dev nD) (t : Fin cfg0.N) : (dats m 0 c).after 3 t = rblk m c t (d3 t) := by dsimp only [dats]
theorem after0_4 (c : Dev nD) (t : Fin cfg0.N) : (dats m 0 c).after 4 t = yblk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = wblk m c t d := by
  unfold Dat.before; rw [if_pos (fetch0_1 t)]; rfl
theorem before0_2 (c : Dev nD) (t : Fin cfg0.N) (d) : (dats m 0 c).before 2 t d = sblk m c t d := by
  unfold Dat.before; rw [if_pos (fetch0_2 t)]; rfl
theorem before0_3 (c : Dev nD) (t : Fin cfg0.N) (d) : (dats m 0 c).before 3 t d = rblk m c t d := by
  unfold Dat.before; rw [if_pos (fetch0_3 t)]; rfl

/-- How far a point's blocks reach into the arrays: fully but in the columns, which all windows cut alike. -/
theorem reach : ∀ t : Fin cfg0.N, win0_1.xsize (grid0.coords t) 0 = 3 ∧ win0_1.xsize (grid0.coords t) 1 = 1952
    ∧ win0_1.xsize (grid0.coords t) 2 = win0_4.xsize (grid0.coords t) 1
    ∧ win0_2.xsize (grid0.coords t) 0 = 61 ∧ win0_2.xsize (grid0.coords t) 1 = win0_4.xsize (grid0.coords t) 1
    ∧ win0_3.xsize (grid0.coords t) 0 = 1 ∧ win0_3.xsize (grid0.coords t) 1 = win0_4.xsize (grid0.coords t) 1
    ∧ win0_4.xsize (grid0.coords t) 0 = 96 ∧ win0_4.xsize (grid0.coords t) 1 = min 512 (14720 - 512 * t.val) :=
  (by decide +kernel : ∀ t : Fin grid0.N, _)

theorem moved1 (t : Fin cfg0.N) (p : Fin 3) (k : Fin 1952) (l : Fin 512) (hl : l.val < win0_4.xsize (grid0.coords t) 1) :
    win0_1.moved (grid0.coords t) (ix3 p k l) = true := by
  obtain ⟨e0, e1, e2, -⟩ := reach t
  rw [Window.moved_iff]
  intro a
  match a with
  | ⟨0, _⟩ => exact lt_of_lt_of_eq p.isLt e0.symm
  | ⟨1, _⟩ => exact lt_of_lt_of_eq k.isLt e1.symm
  | ⟨2, _⟩ => exact lt_of_lt_of_eq hl e2.symm

theorem moved2 (t : Fin cfg0.N) (g : Fin 61) (l : Fin 512) (hl : l.val < win0_4.xsize (grid0.coords t) 1) :
    win0_2.moved (grid0.coords t) (ix2 g l) = true := by
  obtain ⟨-, -, -, e0, e1, -⟩ := reach t
  rw [Window.moved_iff]
  intro a
  match a with
  | ⟨0, _⟩ => exact lt_of_lt_of_eq g.isLt e0.symm
  | ⟨1, _⟩ => exact lt_of_lt_of_eq hl e1.symm

theorem moved3 (t : Fin cfg0.N) (l : Fin 512) (hl : l.val < win0_4.xsize (grid0.coords t) 1) :
    win0_3.moved (grid0.coords t) (ix2 (0 : Fin 1) l) = true := by
  obtain ⟨-, -, -, -, -, e0, e1, -⟩ := reach t
  rw [Window.moved_iff]
  intro a
  match a with
  | ⟨0, _⟩ => exact lt_of_lt_of_eq (by decide : 0 < 1) e0.symm
  | ⟨1, _⟩ => exact lt_of_lt_of_eq hl e1.symm

/-- In the columns inside the array, what a point stores does not depend on what fills its blocks out. -/
theorem cut_tile (c : Dev nD) (t : Fin cfg0.N) (e1 : Vec Ideal S3x1952x512 .i8) (e2 : Vec Ideal S61x512 .i32) (e3 : Vec Ideal S1x512 .f32) :
    win0_4.cut (grid0.coords t) (tileOf (F := Ideal) (xperm m c) (wblk m c t e1) (sblk m c t e2) (rblk m c t e3))
      = win0_4.cut (grid0.coords t) (yblk m c t) := by
  funext j
  have hl : (win0_4.xinj (grid0.coords t) j 1).val < win0_4.xsize (grid0.coords t) 1 := (j 1).isLt
  generalize ej : win0_4.xinj (grid0.coords t) j = y at hl
  show tileOf (F := Ideal) _ _ _ _ (win0_4.xinj (grid0.coords t) j) = yblk m c t (win0_4.xinj (grid0.coords t) j)
  rw [ej]
  obtain ⟨b, l, rfl⟩ : ∃ (b : Fin 96) (l : Fin 512), y = ix2 b l := ⟨y 0, y 1, eq_ix2 y⟩
  have hl' : l.val < win0_4.xsize (grid0.coords t) 1 := hl
  refine tileOf_local _ b l (fun p k => ?_) (fun g => ?_) ?_
  · unfold wblk Window.fill; rw [dif_pos (moved1 t p k l hl'), dif_pos (moved1 t p k l hl')]
  · unfold sblk Window.fill; rw [dif_pos (moved2 t g l hl'), dif_pos (moved2 t g l hl')]
  · unfold rblk Window.fill; rw [dif_pos (moved3 t l hl'), dif_pos (moved3 t l hl')]

/-- What the body is called with at a point. -/
def ebodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns: the permuted activations kept, each staging buffer stated on the columns inside the array. -/
def ebodyPost (c : Dev nD) (t : Fin cfg0.N) : sProp 𝕄 :=
  iprop(PhiS m c (t.val + 1) ∗ (dats m 0 c).owesAt () t.castSucc
    ∗ owns (c : Thread nD τ) (ms0_0 t) fullShare (iblk m c 0 t)
    ∗ (∃ d, owns (c : Thread nD τ) (ms0_1 t) fullShare (win0_1.fill (grid0.coords t) d (win0_1.cut (grid0.coords t) (wblk m c t (d1 t)))))
    ∗ (∃ d, owns (c : Thread nD τ) (ms0_2 t) fullShare (win0_2.fill (grid0.coords t) d (win0_2.cut (grid0.coords t) (sblk m c t (d2 t)))))
    ∗ (∃ d, owns (c : Thread nD τ) (ms0_3 t) fullShare (win0_3.fill (grid0.coords t) d (win0_3.cut (grid0.coords t) (rblk m c t (d3 t)))))
    ∗ (∃ d, owns (c : Thread nD τ) (ms0_4 t) fullShare (win0_4.fill (grid0.coords t) d (win0_4.cut (grid0.coords t) (yblk m c t)))))

/-- The body returns what it should once the buffers hold the point's blocks however filled out, and their tile. -/
theorem return_of (c : Dev nD) (t : Fin cfg0.N) (e1 : Vec Ideal S3x1952x512 .i8) (e2 : Vec Ideal S61x512 .i32) (e3 : Vec Ideal S1x512 .f32) :
    (iprop(PhiS m c (t.val + 1) ∗ (dats m 0 c).owesAt () t.castSucc
      ∗ owns (c : Thread nD τ) (ms0_0 t) fullShare (iblk m c 0 t)
      ∗ owns (c : Thread nD τ) (ms0_1 t) fullShare (wblk m c t e1)
      ∗ owns (c : Thread nD τ) (ms0_2 t) fullShare (sblk m c t e2)
      ∗ owns (c : Thread nD τ) (ms0_3 t) fullShare (rblk m c t e3)
      ∗ owns (c : Thread nD τ) (ms0_4 t) fullShare (tileOf (F := Ideal) (xperm m c) (wblk m c t e1) (sblk m c t e2) (rblk m c t e3))) : sProp 𝕄)
      ⊢ ebodyPost m c t := by
  have h1 : win0_1.fill (grid0.coords t) e1 (win0_1.cut (grid0.coords t) (wblk m c t (d1 t))) = wblk m c t e1 := by
    unfold wblk; rw [Window.cut_fill]
  have h2 : win0_2.fill (grid0.coords t) e2 (win0_2.cut (grid0.coords t) (sblk m c t (d2 t))) = sblk m c t e2 := by
    unfold sblk; rw [Window.cut_fill]
  have h3 : win0_3.fill (grid0.coords t) e3 (win0_3.cut (grid0.coords t) (rblk m c t (d3 t))) = rblk m c t e3 := by
    unfold rblk; rw [Window.cut_fill]
  have h4 := win0_4.fill_congr_cut (grid0.coords t) (cut_tile m c t e1 e2 e3)
  unfold ebodyPost
  iintro ⟨HΦ, Ho, H0, H1, H2, H3, H4⟩
  isplitl [HΦ]; · iexact HΦ
  isplitl [Ho]; · iexact Ho
  isplitl [H0]; · iexact H0
  isplitl [H1]; · iexists e1; rw [h1]; iexact H1
  isplitl [H2]; · iexists e2; rw [h2]; iexact H2
  isplitl [H3]; · iexists e3; rw [h3]; iexact H3
  iexists (tileOf (F := Ideal) (xperm m c) (wblk m c t e1) (sblk m c t e2) (rblk m c t e3)); rw [h4]; iexact H4

set_option maxHeartbeats 3200000 in
/-- The body at any point, by its run in the case the point is in. -/
theorem esound_body (c : Dev nD) (t : Fin cfg0.N) :
    ebodyPre m c t ⊢ wp Idealize.ShloMosaic.frame (wpE (defs₀ (F := Ideal)) Variants.none c none) Set.univ (bodyAt0 t) (fun _ => ebodyPost m c t) := by
  unfold ebodyPre bodyAt0
  simp only [before0_0, before0_1, before0_2, before0_3]
  have hN : t.val < 29 := lt_of_lt_of_eq t.isLt (show cfg0.N = 29 from N_0)
  rw [show (dats m 0 c).Φ t.castSucc = PhiS m c t.val from rfl]
  by_cases hz : t.val = 0
  · have h0 : cond0_0 (grid0.coords t) := (hcond0_0 t).mpr (by omega)
    obtain rfl : t = t0 := Fin.ext hz
    rw [show PhiS m c t0.val = Pipeline.ΦA spec0 c from rfl, PhiA0_eq]
    iintro ⟨⟨⟨HS0, HS1⟩, Hg⟩, Ho, ⟨%e0, H0⟩, ⟨%e1, H1⟩, ⟨%e2, H2⟩, ⟨%e3, H3⟩, ⟨%e4, H4⟩⟩
    iapply ((kernelRun0_A c (grid0.coords t0) _ _ _ _ _ _ _ _ _ _ _ _ _ _ h0 (iblk m c 0 t0) (wblk m c t0 e1) (sblk m c t0 e2) (rblk m c t0 e3)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%f4, H4⟩, ⟨%fs0, HS0⟩, ⟨%fT1, HS1⟩⟩
    iapply (return_of m c t0 e1 e2 e3)
    isplitl [HS0 HS1 Hg]
    · unfold PhiS
      isplitl [HS0 HS1]
      · isplitl [HS0]
        · unfold owns; iexists _; isplitr
          swap; · iexact HS0
          ipureintro; exact leaves_perm c _ _ _ _ _ _ _ _ _ _ _ _ _ _ _ _ _ _ _ _ _
        iexists _; unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact leaves_A c _ _ _ _ _ _ _ _ _ _ _ _ _ _ _ _ _ _ _ _ _
  · have h0 : ¬cond0_0 (grid0.coords t) := fun h => by have := (hcond0_0 t).mp h; omega
    obtain ⟨n, hn⟩ : ∃ n, t.val = n + 1 := ⟨t.val - 1, by omega⟩
    rw [hn]
    unfold PhiS
    iintro ⟨⟨⟨HS0, HS1⟩, Hg⟩, Ho, ⟨%e0, H0⟩, ⟨%e1, H1⟩, ⟨%e2, H2⟩, ⟨%e3, H3⟩, ⟨%e4, H4⟩⟩
    iapply ((kernelRun0_B c (grid0.coords t) _ _ _ _ _ _ _ _ _ _ _ _ _ _ h0 (iblk m c 0 t) (wblk m c t e1) (sblk m c t e2) (rblk m c t e3) (xperm m c)).2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%f4, H4⟩, HS0, ⟨%fT1, HS1⟩⟩
    iapply (return_of m c t e1 e2 e3)
    isplitl [HS0 HS1 Hg]
    · unfold PhiS
      isplitl [HS0 HS1]
      · isplitl [HS0]
        · iexact HS0
        iexists _; unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact leaves_B c _ _ _ _ _ _ _ _ _ _ _ _ _ _ _ _ _ _ _ _ _ _

/-- The library's body obligation. -/
theorem ebody_obligation (c : Dev nD) : BodyObligationLoose (dats m 0 c) (defs₀ (F := Ideal)) Variants.none () Set.univ := fun t => by
  rw [bigSep_W0, bigSep_W0, defs₀_row]
  refine triple_restated (esound_body m c t) rfl .rfl fun _ => ?_
  simp only
  rw [after0_0, after0_1, after0_2, after0_3, after0_4]
  unfold ebodyPost
  exact sep_mono .rfl (sep_mono .rfl (sep_mono .rfl (sep_mono .rfl (sep_mono .rfl (sep_mono .rfl .rfl)))))

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives it back. -/
theorem hout (c : Dev nD) : (dats m 0 c).Φ (Fin.last cfg0.N) ⊢ Pipeline.ΦA spec0 c := by
  rw [show (dats m 0 c).Φ (Fin.last cfg0.N) = PhiS m c cfg0.N from rfl, show cfg0.N = 28 + 1 from N_0, PhiA0_eq]
  unfold PhiS
  iintro ⟨⟨HS0, HS1⟩, Hg⟩
  isplitl [HS0 HS1]
  · isplitl [HS0]
    · iexists _; iexact HS0
    iexact HS1
  iexact Hg

-- as for the frame
set_option backward.isDefEq.respectTransparency.types false in
/-- The launch: every array of the pipeline ends at what the proof data says. -/
theorem erun_main : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := ebody_obligation m) (hshare := fun c => (dats m 0 c).share_full fun _ => rfl)
    (howed := fun _ _ => rfl) (V := V m) (hmain := hmain m Variants.none) (hA := A_eq m) (hin := hin m) (hout := hout m)

end Cert.KernelIdeal.Gen

end
-- ==== Proof.Sums.lean ====
/- The kernel's order of summation and the reference's: by groups of columns, and by codes. -/
module

public import Mathlib.Algebra.BigOperators.Fin
public import Mathlib.Algebra.BigOperators.Intervals

@[expose] public section

namespace Cert.Codes

open Finset

variable {M : Type} [AddCommMonoid M]

/-- A sum over `n` tiles of `k` is the sum over all. -/
theorem sum_tiles (F : ℕ → M) (k n : ℕ) : ∑ q ∈ range n, ∑ j ∈ range k, F (k * q + j) = ∑ Q ∈ range (k * n), F Q := by
  induction n with
  | zero => simp
  | succ n ih => rw [sum_range_succ, ih, Nat.mul_succ, sum_range_add]

/-- The kernel sums pairs of groups and then the last group, each group by codes and then by rows; the reference sums each
    code over all rows. -/
theorem regroup (G : ℕ → ℕ → M) :
    (∑ q ∈ range 30, ∑ j : Fin 256, G (32 * (2 * q + j.val / 128) + j.val % 32) (j.val / 32 % 4))
      + ∑ j : Fin 128, G (32 * 60 + j.val % 32) (j.val / 32)
    = ((∑ p : Fin 1952, G p.val 0 + ∑ p : Fin 1952, G p.val 1) + ∑ p : Fin 1952, G p.val 2) + ∑ p : Fin 1952, G p.val 3 := by
  obtain ⟨F, hF⟩ : ∃ F : ℕ → M, ∀ Q, F Q = G (32 * (Q / 128) + Q % 32) (Q / 32 % 4) := ⟨_, fun _ => rfl⟩
  have hl1 : ∀ q, ∑ j : Fin 256, G (32 * (2 * q + j.val / 128) + j.val % 32) (j.val / 32 % 4) = ∑ j ∈ range 256, F (256 * q + j) := fun q => by
    rw [← Fin.sum_univ_eq_sum_range (fun j => F (256 * q + j)) 256]
    refine sum_congr rfl fun j _ => ?_
    have h1 : (256 * q + j.val) / 128 = 2 * q + j.val / 128 := by omega
    have h2 : (256 * q + j.val) % 32 = j.val % 32 := by omega
    have h3 : (256 * q + j.val) / 32 % 4 = j.val / 32 % 4 := by omega
    rw [hF, h1, h2, h3]
  have hl2 : ∑ j : Fin 128, G (32 * 60 + j.val % 32) (j.val / 32) = ∑ j ∈ range 128, F (256 * 30 + j) := by
    rw [← Fin.sum_univ_eq_sum_range (fun j => F (256 * 30 + j)) 128]
    refine sum_congr rfl fun j _ => ?_
    have h1 : (256 * 30 + j.val) / 128 = 60 := by omega
    have h2 : (256 * 30 + j.val) % 32 = j.val % 32 := by omega
    have h3 : (256 * 30 + j.val) / 32 % 4 = j.val / 32 := by omega
    rw [hF, h1, h2, h3]
  have hg : ∀ g, ∑ j ∈ range 128, F (128 * g + j) = ∑ f ∈ range 4, ∑ r ∈ range 32, G (32 * g + r) f := fun g => by
    rw [show (∑ j ∈ range 128, F (128 * g + j)) = ∑ j ∈ range (32 * 4), (fun j => F (128 * g + j)) j from rfl, ← sum_tiles _ 32 4]
    refine sum_congr rfl fun f hf => sum_congr rfl fun r hr => ?_
    have hf' := mem_range.1 hf
    have hr' := mem_range.1 hr
    have h1 : (128 * g + (32 * f + r)) / 128 = g := by omega
    have h2 : (128 * g + (32 * f + r)) % 32 = r := by omega
    have h3 : (128 * g + (32 * f + r)) / 32 % 4 = f := by omega
    rw [hF, h1, h2, h3]
  have hr : ∀ f, ∑ g ∈ range 61, ∑ r ∈ range 32, G (32 * g + r) f = ∑ p : Fin 1952, G p.val f := fun f => by
    rw [sum_tiles (fun p => G p f) 32 61, ← Fin.sum_univ_eq_sum_range (fun p => G p f) (32 * 61)]
  rw [sum_congr rfl fun q _ => hl1 q, hl2, sum_tiles F 256 30, ← sum_range_add F (256 * 30) 128,
    show 256 * 30 + 128 = 128 * 61 from rfl, ← sum_tiles F 128 61, sum_congr rfl fun g _ => hg g, sum_comm,
    sum_congr rfl fun f _ => hr f, sum_range_succ, sum_range_succ, sum_range_succ, sum_range_succ, range_zero, sum_empty, zero_add]

end Cert.Codes
-- ==== Proof.KernelValue.lean ====
/- What the kernel's result holds, element by element in extended reals, read off the run: a sum over the activations times the
   weights the packed bytes and the scales of the groups spell, times the column's scale. -/
module

public import proofs.«01_k».proof.Proof.Exact
public import proofs.«01_k».proof.Proof.Sums

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window)
open Cert.Codes

variable (m : (ℓ : Loc nD τ sig) → Buf (Elt Ideal) ℓ) (ρ : Dev nD → PrngReg)

/-- The arguments. -/
abbrev argX (c : Dev nD) : Vec Ideal S96x1x7808 .bf16 := m ((c : Thread nD τ).loc main_arg0)
abbrev argW (c : Dev nD) : Vec Ideal S14720x1952x3 .i8 := m ((c : Thread nD τ).loc main_arg1)
abbrev argS (c : Dev nD) : Vec Ideal S14720 .f32 := m ((c : Thread nD τ).loc main_arg2)
abbrev argG (c : Dev nD) : Vec Ideal S14720x61 .i32 := m ((c : Thread nD τ).loc main_arg3)

/-! ## The arrays the region finds -/

theorem found0 (c : Dev nD) (b : Fin 96) (k : Fin 7808) : (V m c main_v0 : Vec Ideal S96x7808 .bf16) (ix2 b k) = argX m c (ix3 b 0 k) := by
  show shapeCast S96x7808 (argX m c) shapeCasts_S96x1x7808_S96x7808 (ix2 b k) = _
  pointwise

theorem found1 (c : Dev nD) (p : Fin 3) (k : Fin 1952) (n : Fin 14720) :
    (V m c main_v1 : Vec Ideal S3x1952x14720 .i8) (ix3 p k n) = argW m c (ix3 n k p) := by
  show transpose S3x1952x14720 _ (argW m c) transposes_S14720x1952x3_S3x1952x14720_2_1_0 (ix3 p k n) = _
  pointwise

theorem found2 (c : Dev nD) (g : Fin 61) (n : Fin 14720) : (V m c main_v2 : Vec Ideal S61x14720 .i32) (ix2 g n) = argG m c (ix2 n g) := by
  show transpose S61x14720 _ (argG m c) transposes_S14720x61_S61x14720_1_0 (ix2 g n) = _
  pointwise

theorem found3 (c : Dev nD) (n : Fin 14720) : (V m c main_v3 : Vec Ideal S1x14720 .f32) (ix2 0 n) = argS m c (ix1 n) := by
  show shapeCast S1x14720 (argS m c) shapeCasts_S14720_S1x14720 (ix2 0 n) = _
  pointwise

/-! ## The blocks -/

theorem idx_facts : ∀ t : Fin cfg0.N, win0_0.index t 0 = 0 ∧ win0_0.index t 1 = 0
    ∧ win0_1.index t 0 = 0 ∧ win0_1.index t 1 = 0 ∧ win0_1.index t 2 = t.val
    ∧ win0_2.index t 0 = 0 ∧ win0_2.index t 1 = t.val
    ∧ win0_3.index t 0 = 0 ∧ win0_3.index t 1 = t.val
    ∧ win0_4.index t 0 = 0 ∧ win0_4.index t 1 = t.val :=
  (by decide +kernel : ∀ t : Fin grid0.N, _)

theorem inside (t : Fin cfg0.N) {l : ℕ} (hl : l < 512) (h : 512 * t.val + l < 14720) : l < win0_4.xsize (grid0.coords t) 1 := by
  obtain ⟨-, -, -, -, -, -, -, -, e⟩ := reach t
  rw [e]; omega

theorem iblk0_apply (c : Dev nD) (t : Fin cfg0.N) (b : Fin 96) (k : Fin 7808) :
    (iblk m c 0 t : Vec Ideal S96x7808 .bf16) (ix2 b k) = argX m c (ix3 b 0 k) := by
  obtain ⟨e0, e1, -⟩ := idx_facts t
  rw [← found0]
  show V m c main_v0 (((cfg0.win 0).blk t).view.emb _) = V m c main_v0 (ix2 b k)
  congr 1
  funext a; apply Fin.ext
  match a with
  | ⟨0, _⟩ => show win0_0.index t 0 * 96 + 1 * b.val = b.val; omega
  | ⟨1, _⟩ => show win0_0.index t 1 * 7808 + 1 * k.val = k.val; omega

theorem wblk_apply (c : Dev nD) (t : Fin cfg0.N) (d) (p : Fin 3) (k : Fin 1952) (l : Fin 512) (h : 512 * t.val + l.val < 14720) :
    wblk m c t d (ix3 p k l) = argW m c (ix3 ⟨512 * t.val + l.val, h⟩ k p) := by
  obtain ⟨-, -, e0, e1, e2, -⟩ := idx_facts t
  rw [← found1]
  unfold wblk Window.fill
  rw [dif_pos (moved1 t p k l (inside t l.isLt h))]
  show V m c main_v1 (((cfg0.win 1).blk t).view.emb _) = V m c main_v1 (ix3 p k ⟨512 * t.val + l.val, h⟩)
  congr 1
  funext a; apply Fin.ext
  match a with
  | ⟨0, _⟩ => show win0_1.index t 0 * 3 + 1 * p.val = p.val; omega
  | ⟨1, _⟩ => show win0_1.index t 1 * 1952 + 1 * k.val = k.val; omega
  | ⟨2, _⟩ => show win0_1.index t 2 * 512 + 1 * l.val = 512 * t.val + l.val; omega

theorem sblk_apply (c : Dev nD) (t : Fin cfg0.N) (d) (g : Fin 61) (l : Fin 512) (h : 512 * t.val + l.val < 14720) :
    sblk m c t d (ix2 g l) = argG m c (ix2 ⟨512 * t.val + l.val, h⟩ g) := by
  obtain ⟨-, -, -, -, -, e0, e1, -⟩ := idx_facts t
  rw [← found2]
  unfold sblk Window.fill
  rw [dif_pos (moved2 t g l (inside t l.isLt h))]
  show V m c main_v2 (((cfg0.win 2).blk t).view.emb _) = V m c main_v2 (ix2 g ⟨512 * t.val + l.val, h⟩)
  congr 1
  funext a; apply Fin.ext
  match a with
  | ⟨0, _⟩ => show win0_2.index t 0 * 61 + 1 * g.val = g.val; omega
  | ⟨1, _⟩ => show win0_2.index t 1 * 512 + 1 * l.val = 512 * t.val + l.val; omega

theorem rblk_apply (c : Dev nD) (t : Fin cfg0.N) (d) (l : Fin 512) (h : 512 * t.val + l.val < 14720) :
    rblk m c t d (ix2 0 l) = argS m c (ix1 ⟨512 * t.val + l.val, h⟩) := by
  obtain ⟨-, -, -, -, -, -, -, e0, e1, -⟩ := idx_facts t
  rw [← found3]
  unfold rblk Window.fill
  rw [dif_pos (moved3 t l (inside t l.isLt h))]
  show V m c main_v3 (((cfg0.win 3).blk t).view.emb _) = V m c main_v3 (ix2 0 ⟨512 * t.val + l.val, h⟩)
  congr 1
  funext a; apply Fin.ext
  match a with
  | ⟨0, _⟩ => show win0_3.index t 0 * 1 + 1 * 0 = 0; omega
  | ⟨1, _⟩ => show win0_3.index t 1 * 512 + 1 * l.val = 512 * t.val + l.val; omega

/-! ## The result -/

theorem idx_inj4 : ∀ t t' : Fin cfg0.N, win0_4.index t = win0_4.index t' → t = t' := fun t t' h => by
  obtain ⟨-, -, -, -, -, -, -, -, -, -, e⟩ := idx_facts t
  obtain ⟨-, -, -, -, -, -, -, -, -, -, e'⟩ := idx_facts t'
  exact Fin.ext (e.symm.trans ((congrFun h 1).trans e'))

/-- Two points write back blocks that share no element. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- So the array ends holding, in column `512t + l`, what point `t` left in column `l` of the buffer. -/
theorem final_apply (c : Dev nD) (t : Fin cfg0.N) (b : Fin 96) (l : Fin 512) (h : 512 * t.val + l.val < 14720) :
    ((dats m 0 c).arrAt 4 cfg0.N : Vec Ideal S96x14720 .bf16) (ix2 b ⟨512 * t.val + l.val, h⟩) = yblk m c t (ix2 b l) := by
  obtain ⟨-, -, -, -, -, -, -, -, -, e0, e1⟩ := idx_facts t
  obtain ⟨-, -, -, -, -, -, -, s0, s1⟩ := reach t
  have key := (dats m 0 c).read_blk_arrAt_eq_flushed 4 disjoint4 cfg0.N t t.isLt (flush0_4 t)
  have hy : ∀ a : Fin 2, (ix2 b l a).val < win0_4.xsize (grid0.coords t) a := fun a => match a with
    | ⟨0, _⟩ => lt_of_lt_of_eq b.isLt s0.symm
    | ⟨1, _⟩ => inside t l.isLt h
  have := congrFun key (fun a => ⟨(ix2 b l a).val, hy a⟩)
  refine Eq.trans ?_ (this.trans ?_)
  · show _ = (dats m 0 c).arrAt 4 cfg0.N (((cfg0.win 4).blk t).view.emb _)
    congr 1
    funext a; apply Fin.ext
    match a with
    | ⟨0, _⟩ => show b.val = win0_4.index t 0 * 96 + 1 * b.val; omega
    | ⟨1, _⟩ => show 512 * t.val + l.val = win0_4.index t 1 * 512 + 1 * l.val; omega
  · show (dats m 0 c).after 4 t _ = _
    rw [after0_4]
    rfl

end Cert.KernelIdeal.Gen

end
-- ==== Proof.RefRead.lean ====
/- The reference's result read at an element in extended reals: four sums over the packed rows, times the column's scale. -/
module

public import proofs.«01_k».proof.Proof.Weights
public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo
open Cert.Codes

/-- A number at every element of the codes. -/
abbrev num (k : BitVec 32) : IVec S14720x1952 32 := broadcastInDim S14720x1952 ![] bcast_S_S14720x1952 (constantI S_ 32 k)

/-- The codes at bit `k` of the packed words, and their fields, magnitudes and weights, as the program computes them. -/
def codeOf (t : IVec S14720x1952 32) (k : BitVec 32) : IVec S14720x1952 32 := andi (Host.shrsi t (num k)) (num 63#32)
def eOf (c : IVec S14720x1952 32) : IVec S14720x1952 32 := andi (Host.shrsi c (num 2#32)) (num 7#32)
def mOf (c : IVec S14720x1952 32) : IVec S14720x1952 32 := andi c (num 3#32)
def magOf (c : IVec S14720x1952 32) : IVec S14720x1952 32 :=
  select (cmpi .eq (eOf c) (num 0#32)) (id (select (cmpi .eq (mOf c) (num 0#32)) (num 0#32)
      (select (cmpi .eq (mOf c) (num 1#32)) (num 15744#32) (select (cmpi .eq (mOf c) (num 2#32)) (num 15872#32) (num 15936#32)))))
    (ori (Host.shli (addi (eOf c) (num 124#32)) (num 7#32)) (Host.shli (mOf c) (num 5#32)))
def bitsOf (c g : IVec S14720x1952 32) : IVec S14720x1952 16 :=
  trunci 16 (ori (Host.shli (andi (Host.shrsi c (num 5#32)) (num 1#32)) (num 15#32))
    (select (cmpi .eq (magOf c) (num 0#32)) (broadcastInDim S14720x1952 ![] bcast_S_S14720x1952 (id (constantI S_ 32 0#32))) (addi (magOf c) g))) natLt_16_32
def dotOf (X : FVec Ideal S96x1952 .bf16) (c g : IVec S14720x1952 32) : FVec Ideal S96x14720 .f32 :=
  Host.dotGeneral dot_S96x1952_S14720x1952_S96x14720_1_1_0_0_n_n none X (bitcastToFloat (F := Ideal) .bf16 (bitsOf c g))

/-- The result, of what the arguments hold. -/
def result (V : Valuation τ sig (Elt Ideal)) : FVec Ideal S96x14720 .bf16 :=
  truncf .bf16 (mulf (addf (addf (addf
    (dotOf (shapeCast _ (extractStridedSlice S96x1952x1 ![0, 0, 0] (res_main_v23 V) slices_S96x1952x4_S96x1952x1_0_0_0) shapeCasts_S96x1952x1_S96x1952)
      (codeOf (res_main_v12 V) 0#32) (res_main_v22 V))
    (dotOf (shapeCast _ (extractStridedSlice S96x1952x1 ![0, 0, 1] (res_main_v23 V) slices_S96x1952x4_S96x1952x1_0_0_1) shapeCasts_S96x1952x1_S96x1952)
      (codeOf (res_main_v12 V) 6#32) (res_main_v22 V)))
    (dotOf (shapeCast _ (extractStridedSlice S96x1952x1 ![0, 0, 2] (res_main_v23 V) slices_S96x1952x4_S96x1952x1_0_0_2) shapeCasts_S96x1952x1_S96x1952)
      (codeOf (res_main_v12 V) 12#32) (res_main_v22 V)))
    (dotOf (shapeCast _ (extractStridedSlice S96x1952x1 ![0, 0, 3] (res_main_v23 V) slices_S96x1952x4_S96x1952x1_0_0_3) shapeCasts_S96x1952x1_S96x1952)
      (codeOf (res_main_v12 V) 18#32) (res_main_v22 V)))
    (broadcastInDim S96x14720 ![0, 1] bcast_S1x14720_S96x14720_0_1 (broadcastInDim S1x14720 ![1] bcast_S14720_S1x14720_1 (V (Proc.devRef .tc main_arg2))))) bitsLt_bf16_f32

/-- A run leaves it. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v210) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2⟩) (run m ρ)

/-- Below bit 8 the arithmetic shift by less than 24 is the logical one. -/
theorem sshr_and (x k : BitVec 32) (n : ℕ) (hn : n ≤ 23) (hk : k &&& 255#32 = k) : x.sshiftRight n &&& k = x >>> n &&& k := by
  rw [← hk]
  ext i hi
  by_cases h : i < 8
  · simp [BitVec.getElem_sshiftRight, show n + i < 32 by omega, BitVec.getLsbD_eq_getElem (show n + i < 32 by omega)]
  · have : (255#32).getLsbD i = false := by
      interval_cases i <;> first | rfl | omega
    simp [← BitVec.getLsbD_eq_getElem, this]

theorem shrsi_num (x : IVec S14720x1952 32) (k : BitVec 32) (hk : k.toNat < 32) (i : S14720x1952.Idx) :
    Host.shrsi x (num k) i = (x i).sshiftRight k.toNat := if_pos hk
theorem shli_num (x : IVec S14720x1952 32) (k : BitVec 32) (hk : k.toNat < 32) (i : S14720x1952.Idx) :
    Host.shli x (num k) i = x i <<< k.toNat := if_pos hk

theorem select_eq {α : Type} (a b : BitVec 32) (x y : α) : Scalar.select (IntOp.cmpi .eq a b) x y = if a = b then x else y := by
  by_cases h : a = b
  · subst h; simp [Scalar.select, IntOp.cmpi]
  · have e : (a == b) = false := beq_eq_false_iff_ne.2 h
    simp [Scalar.select, IntOp.cmpi, h, e]

theorem codeOf_apply (t : IVec S14720x1952 32) (f : ℕ) (hf : f < 4) (i : S14720x1952.Idx) :
    codeOf t (BitVec.ofNat 32 (6 * f)) i = code (t i) f := by
  show Host.shrsi t (num _) i &&& 63#32 = _
  have e : (BitVec.ofNat 32 (6 * f)).toNat = 6 * f := by rw [BitVec.toNat_ofNat]; omega
  rw [shrsi_num _ _ (by omega), e, sshr_and _ _ _ (by omega) (by decide)]
  rfl

theorem magOf_apply (c : IVec S14720x1952 32) (i : S14720x1952.Idx) : magOf c i = magBits (c i) := by
  have he : eOf c i = c i >>> 2 &&& 7#32 := by
    show Host.shrsi c (num _) i &&& 7#32 = _
    rw [shrsi_num _ _ (by decide), sshr_and _ _ _ (by decide) (by decide)]; rfl
  show Scalar.select (IntOp.cmpi .eq (eOf c i) 0#32) (Scalar.select (IntOp.cmpi .eq (c i &&& 3#32) 0#32) 0#32
      (Scalar.select (IntOp.cmpi .eq (c i &&& 3#32) 1#32) 15744#32 (Scalar.select (IntOp.cmpi .eq (c i &&& 3#32) 2#32) 15872#32 15936#32)))
    (Host.shli (addi (eOf c) (num 124#32)) (num 7#32) i ||| Host.shli (mOf c) (num 5#32) i) = _
  rw [select_eq, select_eq, select_eq, select_eq, shli_num _ _ (by decide), shli_num _ _ (by decide)]
  show (if eOf c i = 0#32 then _ else (eOf c i + 124#32) <<< 7 ||| _) = _
  rw [he]
  rfl

theorem bitsOf_apply (c g : IVec S14720x1952 32) (E : BitVec 32) (i : S14720x1952.Idx) (hg : g i = (E - 127#32) <<< 7) :
    bitsOf c g i = refBits (c i) E := by
  show ((Host.shli (andi (Host.shrsi c (num 5#32)) (num 1#32)) (num 15#32) i)
    ||| Scalar.select (IntOp.cmpi .eq (magOf c i) 0#32) 0#32 (magOf c i + g i)).setWidth 16 = _
  rw [select_eq, shli_num _ _ (by decide), magOf_apply, hg]
  show ((((Host.shrsi c (num 5#32) i) &&& 1#32) <<< 15) ||| _).setWidth 16 = _
  rw [shrsi_num _ _ (by decide), sshr_and _ _ _ (by decide) (by decide)]
  rfl

theorem dotOf_apply (X : FVec Ideal S96x1952 .bf16) (c g : IVec S14720x1952 32) (b : Fin 96) (n : Fin 14720) :
    dotOf X c g (ix2 b n) = ∑ p : Fin 1952, X (ix2 b p) * Ideal.ofBits .bf16 (bitsOf c g (ix2 n p)) := by
  unfold dotOf
  pointwise

variable (V : Valuation τ sig (Elt Ideal))

/-- What the arguments hold. -/
abbrev argX : Vec Ideal S96x1x7808 .bf16 := V (Proc.devRef .tc main_arg0)
abbrev argW : Vec Ideal S14720x1952x3 .i8 := V (Proc.devRef .tc main_arg1)
abbrev argS : Vec Ideal S14720 .f32 := V (Proc.devRef .tc main_arg2)
abbrev argG : Vec Ideal S14720x61 .i32 := V (Proc.devRef .tc main_arg3)

theorem argX_congr (b : Fin 96) {i j : Fin 7808} (h : i.val = j.val) : argX V (ix3 b 0 i) = argX V (ix3 b 0 j) := by
  rw [Fin.ext h]

/-- The packed word of a row. -/
theorem v12_apply (n : Fin 14720) (p : Fin 1952) : res_main_v12 V (ix2 n p)
    = packed (argW V (ix3 n p 0))
        (argW V (ix3 n p 1))
        (argW V (ix3 n p 2)) := by
  unfold res_main_v12 res_main_v0
  show _ ||| (Host.shli _ (num 8#32) (ix2 n p)) ||| (Host.shli _ (num 16#32) (ix2 n p)) = _
  rw [shli_num _ _ (by decide), shli_num _ _ (by decide)]
  pointwise
  rfl

/-- The exponent of a group, at a row of it. -/
theorem v22_apply (n : Fin 14720) (p : Fin 1952) : res_main_v22 V (ix2 n p)
    = (expo (argG V (ix2 n ⟨p.val / 32, by omega⟩)) - 127#32) <<< 7 := by
  unfold res_main_v22 expo
  pointwise
  rw [← sshr_and _ _ _ (by decide) (by decide)]
  rfl

/-- The weight of a code. -/
def refWeight (n : Fin 14720) (p : Fin 1952) (f : ℕ) : EReal :=
  Ideal.ofBits .bf16 (refBits (code (packed (argW V (ix3 n p 0))
        (argW V (ix3 n p 1))
        (argW V (ix3 n p 2))) f)
    (expo (argG V (ix2 n ⟨p.val / 32, by omega⟩))))

/-- The sum over the packed rows of code `f`. -/
def refSum (b : Fin 96) (n : Fin 14720) (f : Fin 4) : EReal :=
  ∑ p : Fin 1952, (argX V (ix3 b 0 ⟨4 * p.val + f.val, by omega⟩) : EReal) * refWeight V n p f.val

theorem weight_apply (n : Fin 14720) (p : Fin 1952) (f : ℕ) (hf : f < 4) :
    Ideal.ofBits .bf16 (bitsOf (codeOf (res_main_v12 V) (BitVec.ofNat 32 (6 * f))) (res_main_v22 V) (ix2 n p)) = refWeight V n p f := by
  rw [bitsOf_apply _ _ _ _ (v22_apply V n p), codeOf_apply _ _ hf, v12_apply]
  rfl

theorem dot_sum (X : FVec Ideal S96x1952 .bf16) (f : Fin 4) (b : Fin 96) (n : Fin 14720)
    (hX : ∀ p : Fin 1952, X (ix2 b p) = argX V (ix3 b 0 ⟨4 * p.val + f.val, by omega⟩)) :
    dotOf X (codeOf (res_main_v12 V) (BitVec.ofNat 32 (6 * f.val))) (res_main_v22 V) (ix2 b n) = refSum V b n f := by
  rw [dotOf_apply]
  exact Finset.sum_congr rfl fun p _ => by rw [hX p, weight_apply V n p f.val f.isLt]

/-- The result at an element. -/
theorem result_apply (b : Fin 96) (n : Fin 14720) : result V (ix2 b n)
    = (((refSum V b n 0 + refSum V b n 1) + refSum V b n 2) + refSum V b n 3) * (argS V (ix1 n) : EReal) := by
  rw [← dot_sum V (shapeCast _ (extractStridedSlice S96x1952x1 ![0, 0, 0] (res_main_v23 V) slices_S96x1952x4_S96x1952x1_0_0_0) shapeCasts_S96x1952x1_S96x1952) 0 b n
      (fun p => by unfold res_main_v23; pointwise; exact argX_congr V b (by show p.val * 4 = 4 * p.val + 0; omega)),
    ← dot_sum V (shapeCast _ (extractStridedSlice S96x1952x1 ![0, 0, 1] (res_main_v23 V) slices_S96x1952x4_S96x1952x1_0_0_1) shapeCasts_S96x1952x1_S96x1952) 1 b n
      (fun p => by unfold res_main_v23; pointwise; exact argX_congr V b (by show p.val * 4 + 1 = 4 * p.val + 1; omega)),
    ← dot_sum V (shapeCast _ (extractStridedSlice S96x1952x1 ![0, 0, 2] (res_main_v23 V) slices_S96x1952x4_S96x1952x1_0_0_2) shapeCasts_S96x1952x1_S96x1952) 2 b n
      (fun p => by unfold res_main_v23; pointwise; exact argX_congr V b (by show p.val * 4 + 2 = 4 * p.val + 2; omega)),
    ← dot_sum V (shapeCast _ (extractStridedSlice S96x1952x1 ![0, 0, 3] (res_main_v23 V) slices_S96x1952x4_S96x1952x1_0_0_3) shapeCasts_S96x1952x1_S96x1952) 3 b n
      (fun p => by unfold res_main_v23; pointwise; exact argX_congr V b (by show p.val * 4 + 3 = 4 * p.val + 3; omega))]
  unfold result
  pointwise

end Cert.ReferenceIdeal.Value
-- ==== Proof.Agree.lean ====
/- The kernel's result is the reference's, element by element in extended reals, when the exponents of the scales are in range. -/
module

public import proofs.«01_k».proof.Proof.KernelValue
public import proofs.«01_k».proof.Proof.RefRead

@[expose] public section

set_option maxRecDepth 16384

noncomputable section

namespace Cert.Agree

open Idealize.ShloMosaic Idealize.ShloMosaic.TcCoe Idealize.ShloMosaic.Tactic
open Cert.Codes Cert.KernelIdeal Cert.KernelIdeal.Gen
open Cert.ReferenceIdeal.Value (refWeight refSum result result_apply)

variable (m : (ℓ : Loc nD τ sig) → Buf (Elt Ideal) ℓ) (c : Dev nD)

/-- The term of the sum at packed element `p`, field `f`, in the arguments of the kernel; nothing outside the arrays. -/
def term (b : Fin 96) (n : Fin 14720) (p f : ℕ) : EReal :=
  if h : p < 1952 ∧ f < 4 then
    (argX m c (ix3 b 0 ⟨4 * p + f, by omega⟩) : EReal) * Ideal.ofBits .bf16 (refBits (code (packed (argW m c (ix3 n ⟨p, h.1⟩ 0))
      (argW m c (ix3 n ⟨p, h.1⟩ 1)) (argW m c (ix3 n ⟨p, h.1⟩ 2))) f) (expo (argG m c (ix2 n ⟨p / 32, by omega⟩))))
  else 0

theorem code_lt (t : BitVec 32) (f : ℕ) : (code t f).toNat < 64 := by
  unfold code
  rw [BitVec.toNat_and]
  exact lt_of_le_of_lt Nat.and_le_right (by decide)

/-- The exponents the claim asks for in row `n`. -/
def InRange (n : Fin 14720) : Prop :=
  ∀ g : Fin 61, 5 ≤ (expo (argG m c (ix2 n g))).toNat ∧ (expo (argG m c (ix2 n g))).toNat ≤ 250

/-- The kernel's term in group `g`, field `f`, row `r` of the group, is the sum's term at packed element `32g + r`. -/
theorem kernel_term (t : Fin cfg0.N) (b : Fin 96) (l : Fin 512) (h : 512 * t.val + l.val < 14720)
    (hE : InRange m c ⟨512 * t.val + l.val, h⟩) (d : Vec Ideal S3x1952x512 .i8) (e : Vec Ideal S61x512 .i32) (g f r : ℕ) (hg : g < 61) (hf : f < 4) (hr : r < 32)
    (k : Fin 7808) (hk : k.val = 128 * g + (32 * f + r)) (q : Fin 1952) (hq : q.val = 32 * g + r) (u : Fin 61) (hu : u.val = g)
    (f' r' : ℕ) (hf' : f' = f) (hr' : r' = r % 2) :
    (xperm m c (ix2 b k) : EReal) * weight (fun p => wblk m c t d (ix3 p q l)) f' (k0_pay92 (F := Ideal) (sblk m c t e) (ix2 u l)) r'
      = term m c b ⟨512 * t.val + l.val, h⟩ (32 * g + r) f := by
  subst hf' hr'
  obtain ⟨k, hk'⟩ := k
  obtain ⟨q, hq'⟩ := q
  obtain ⟨u, hu'⟩ := u
  dsimp only at hk hq hu
  subst hk hq hu
  unfold xperm
  rw [permX_apply _ b u hg ⟨32 * f' + r, by omega⟩, iblk0_apply, pay92_apply, sblk_apply m c t e _ l h]
  unfold weight term
  simp only [wblk_apply m c t d _ _ l h]
  rw [scaleWord_half _ (hE _).1 (hE _).2 _ (by omega), weight_value _ _ (code_lt _ _) (hE _).1 (hE _).2, dif_pos ⟨by omega, hf⟩]
  have e1 : (⟨128 * u + (4 * ((⟨32 * f' + r, by omega⟩ : Fin 128).val % 32) + (⟨32 * f' + r, by omega⟩ : Fin 128).val / 32), by
      show 128 * u + (4 * ((32 * f' + r) % 32) + (32 * f' + r) / 32) < 7808; omega⟩ : Fin 7808) = ⟨4 * (32 * u + r) + f', by omega⟩ :=
    Fin.ext (by show 128 * u + (4 * ((32 * f' + r) % 32) + (32 * f' + r) / 32) = 4 * (32 * u + r) + f'; omega)
  have e2 : (⟨u, hu'⟩ : Fin 61) = ⟨(32 * u + r) / 32, by omega⟩ := Fin.ext (by show u = (32 * u + r) / 32; omega)
  rw [e1, e2]

/-- An element of the kernel's result, as the sums of the terms over the packed elements, field by field. -/
theorem kernel_apply (t : Fin cfg0.N) (b : Fin 96) (l : Fin 512) (h : 512 * t.val + l.val < 14720) (hE : InRange m c ⟨512 * t.val + l.val, h⟩) :
    yblk m c t (ix2 b l) = (((∑ p : Fin 1952, term m c b ⟨512 * t.val + l.val, h⟩ p.val 0 + ∑ p : Fin 1952, term m c b ⟨512 * t.val + l.val, h⟩ p.val 1)
      + ∑ p : Fin 1952, term m c b ⟨512 * t.val + l.val, h⟩ p.val 2) + ∑ p : Fin 1952, term m c b ⟨512 * t.val + l.val, h⟩ p.val 3)
      * (argS m c (ix1 ⟨512 * t.val + l.val, h⟩) : EReal) := by
  unfold yblk
  rw [tileOf_apply, rblk_apply m c t _ l h, ← regroup]
  refine congrArg (fun z : EReal => z * (argS m c (ix1 ⟨512 * t.val + l.val, h⟩) : EReal)) (congrArg₂ (fun y z : EReal => y + z) ?_ ?_)
  · refine Finset.sum_congr rfl fun q hq => Finset.sum_congr rfl fun j _ => ?_
    have hq' : q < 30 := Finset.mem_range.mp hq
    exact kernel_term m c t b l h hE _ _ (2 * q + j.val / 128) (j.val / 32 % 4) (j.val % 32) (by omega) (by omega) (by omega)
      _ (by show 256 * (q % 30) + j.val = _; omega) _ (by show 32 * ((2 * q + j.val / 128) % 61) + j.val % 32 = _; omega)
      _ (by show (2 * q + j.val / 128) % 61 = _; omega) _ _ rfl (by omega)
  · refine Finset.sum_congr rfl fun j _ => ?_
    exact kernel_term m c t b l h hE _ _ 60 (j.val / 32) (j.val % 32) (by omega) (by omega) (by omega)
      _ (by show 7680 + j.val = _; omega) _ rfl _ rfl _ _ rfl (by omega)

/-- The two results, of arguments that agree. -/
theorem agree (V' : Valuation Cert.ReferenceIdeal.τ Cert.ReferenceIdeal.sig (Elt Ideal))
    (h0 : Cert.ReferenceIdeal.Value.argX V' = argX m c) (h1 : Cert.ReferenceIdeal.Value.argW V' = argW m c)
    (h2 : Cert.ReferenceIdeal.Value.argS V' = argS m c) (h3 : Cert.ReferenceIdeal.Value.argG V' = argG m c)
    (hE : ∀ n, InRange m c n) :
    ((dats m 0 c).arrAt 4 cfg0.N : Vec Ideal S96x14720 .bf16) = result V' := by
  funext i
  obtain ⟨b, n, rfl⟩ : ∃ (b : Fin 96) (n : Fin 14720), i = ix2 b n := ⟨i 0, i 1, eq_ix2 i⟩
  obtain ⟨t, l, h, rfl⟩ : ∃ (t : Fin cfg0.N) (l : Fin 512) (h : 512 * t.val + l.val < 14720), n = ⟨512 * t.val + l.val, h⟩ :=
    ⟨⟨n.val / 512, lt_of_lt_of_eq (by omega) N_0.symm⟩, ⟨n.val % 512, by omega⟩, by show 512 * (n.val / 512) + n.val % 512 < 14720; omega,
      Fin.ext (by show n.val = 512 * (n.val / 512) + n.val % 512; omega)⟩
  rw [final_apply m c t b l h, kernel_apply m c t b l h (hE _)]
  refine Eq.trans ?_ (result_apply V' b _).symm
  have hs : ∀ f : Fin 4, ∑ p : Fin 1952, term m c b ⟨512 * t.val + l.val, h⟩ p.val f.val = refSum V' b ⟨512 * t.val + l.val, h⟩ f := fun f => by
    unfold refSum refWeight
    rw [h0, h1, h3]
    refine Finset.sum_congr rfl fun p _ => ?_
    unfold term
    rw [dif_pos ⟨p.isLt, f.isLt⟩]
  rw [h2, ← hs 0, ← hs 1, ← hs 2, ← hs 3]
  rfl

end Cert.Agree

end
-- ==== Proof.Algebraic.lean ====
/- The two programs end with equal results in extended reals: the kernel's run and the reference's run, their results related
   element by element, the exponents of the scales in range as the precondition says. -/
module

public import proofs.«01_k».proof.Defs
public import proofs.«01_k».proof.Proof.Agree
public import proofs.«01_k».proof.Proof.Gen.KernelIdeal
public import proofs.«01_k».proof.Proof.Gen.ReferenceIdeal

@[expose] public section

set_option maxRecDepth 16384

noncomputable section

namespace Cert.Agree

open Idealize.ShloMosaic Idealize.ShloMosaic.TcCoe Idealize.ShloMosaic.Tactic
open Idealize.SL.Sem
open Cert.Codes Cert.KernelIdeal Cert.KernelIdeal.Gen

/-- The side condition the precondition's program takes. -/
theorem pre_facts : Cert.Pre_exponents_in_range.Facts := ⟨by decide⟩

/-- The kernel's run, read. -/
theorem run_kernel (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1 c).1 4,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩)
    (erun_main m ρ)

/-- A number the two comparisons hold of is between the bounds. -/
theorem between (E : BitVec 32) (hE : E.toNat < 256) (h : IntOp.andi (IntOp.cmpi .sge E 5#32) (IntOp.cmpi .sle E 250#32) = 1#1) :
    5 ≤ E.toNat ∧ E.toNat ≤ 250 := by
  have key : ∀ k : Fin 256, IntOp.andi (IntOp.cmpi .sge (BitVec.ofNat 32 k.val) 5#32) (IntOp.cmpi .sle (BitVec.ofNat 32 k.val) 250#32) = 1#1 →
      5 ≤ k.val ∧ k.val ≤ 250 := by decide +kernel
  exact key ⟨E.toNat, hE⟩ (by rw [BitVec.ofNat_toNat, BitVec.setWidth_eq]; exact h)

/-- The precondition, read: every exponent is in range. -/
theorem in_range [Cert.Pre_exponents_in_range.Facts] (m : (ℓ : Loc nD τ sig) → Buf (Elt Ideal) ℓ) (c : Dev nD)
    (h : Cert.Pre_exponents_in_range.fn (F := Ideal) (argX m c) (argW m c) (argS m c) (argG m c) = fun _ => 1#1) (n : Fin 14720) : InRange m c n := fun g => by
  have e := congrFun h (ix2 n g)
  have hs : (argG m c (ix2 n g)).sshiftRight 23 &&& 255#32 = expo (argG m c (ix2 n g)) :=
    Cert.ReferenceIdeal.Value.sshr_and _ _ _ (by decide) (by decide)
  have hw : Host.shrsi (argG m c) (fun _ => 23#32) (ix2 n g) = (argG m c (ix2 n g)).sshiftRight 23 := by
    unfold Host.shrsi IntOp.shrsi
    rw [if_pos (show (23#32).toNat < 32 by decide)]
    rfl
  refine between _ ?_ ?_
  · rw [← hs, BitVec.toNat_and]
    exact lt_of_le_of_lt Nat.and_le_right (by decide)
  · rw [← hs, ← hw]
    exact e

theorem algebraic : Cert.algebraic_KernelIdeal_ReferenceIdeal_pre_exponents_in_range (hKernelIdeal := Cert.KernelIdeal.Gen.facts)
    (hReferenceIdeal := Cert.ReferenceIdeal.Gen.facts) (hPre_exponents_in_range := pre_facts) := by
  intro m g m' g' hpre hargs
  refine ⟨fun c => (dats m 0 c).arrAt 4 cfg0.N, run_kernel m g, ?_⟩
  refine (θ_run _ _ _).mono (fun r h c => ⟨(h c).1.trans ?_, (h c).2⟩) (Cert.ReferenceIdeal.Value.run_result m' g')
  obtain ⟨a0, a1, a2, a3⟩ := hargs c
  exact (agree m c _ a0 a1 a2 a3 (@in_range pre_facts m c (hpre c))).symm

end Cert.Agree

end
-- ==== Proof.lean ====
/- The proof of the certificate's claim: the frames of the kernel, of its reading at the reals and of the reference, and the equality
   of the two results at the reals; the kernel and its reading at the reals are one text, so nothing is to be shown of the
   idealization. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Agree.pre_facts,
    fun m ρ _ => Cert.KernelIdeal.Gen.frame_kernel m ρ,
    fun m ρ _ => Cert.KernelIdeal.Gen.frame m ρ,
    fun m ρ _ => Cert.KernelIdeal.Gen.frame m ρ,
    fun m ρ _ => Cert.ReferenceIdeal.Value.frame m ρ,
    fun m ρ _ => Cert.ReferenceIdeal.Value.frame m ρ,
    trivial,
    Cert.Agree.algebraic⟩

end Cert.Proof

end
